-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ZaKernel (m : (ℓ : Loc Cert.ZaKernel.nD Cert.ZaKernel.τ Cert.ZaKernel.sig) → Buf (Elt Bits) ℓ) : Prop :=
  True

def Pre_ZaKernelIdeal (m : (ℓ : Loc Cert.ZaKernelIdeal.nD Cert.ZaKernelIdeal.τ Cert.ZaKernelIdeal.sig) → Buf (Elt Ideal) ℓ) : Prop :=
  True

def Pre_ZaReferenceIdeal (m : (ℓ : Loc Cert.ZaReferenceIdeal.nD Cert.ZaReferenceIdeal.τ Cert.ZaReferenceIdeal.sig) → Buf (Elt Ideal) ℓ) : Prop :=
  True

def Pre_QkviKernel (m : (ℓ : Loc Cert.QkviKernel.nD Cert.QkviKernel.τ Cert.QkviKernel.sig) → Buf (Elt Bits) ℓ) : Prop :=
  True

def Pre_QkviKernelIdeal (m : (ℓ : Loc Cert.QkviKernelIdeal.nD Cert.QkviKernelIdeal.τ Cert.QkviKernelIdeal.sig) → Buf (Elt Ideal) ℓ) : Prop :=
  True

def Pre_QkviReferenceIdeal (m : (ℓ : Loc Cert.QkviReferenceIdeal.nD Cert.QkviReferenceIdeal.τ Cert.QkviReferenceIdeal.sig) → Buf (Elt Ideal) ℓ) : Prop :=
  True

def Pre_SmKernel (m : (ℓ : Loc Cert.SmKernel.nD Cert.SmKernel.τ Cert.SmKernel.sig) → Buf (Elt Bits) ℓ) : Prop :=
  True

def Pre_SmKernelIdeal (m : (ℓ : Loc Cert.SmKernelIdeal.nD Cert.SmKernelIdeal.τ Cert.SmKernelIdeal.sig) → Buf (Elt Ideal) ℓ) : Prop :=
  True

def Pre_SmReferenceIdeal (m : (ℓ : Loc Cert.SmReferenceIdeal.nD Cert.SmReferenceIdeal.τ Cert.SmReferenceIdeal.sig) → Buf (Elt Ideal) ℓ) : Prop :=
  True

def Pre_PleKernel (m : (ℓ : Loc Cert.PleKernel.nD Cert.PleKernel.τ Cert.PleKernel.sig) → Buf (Elt Bits) ℓ) : Prop :=
  True

def Pre_PleKernelIdeal (m : (ℓ : Loc Cert.PleKernelIdeal.nD Cert.PleKernelIdeal.τ Cert.PleKernelIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ZaKernel [hZaKernel : Cert.ZaKernel.Facts] : Prop :=
  ∀ (m : (ℓ : Loc Cert.ZaKernel.nD Cert.ZaKernel.τ Cert.ZaKernel.sig) → Buf (Elt Bits) ℓ) (g : Dev Cert.ZaKernel.nD → PrngReg), Pre_ZaKernel m →
    θ_run (Cert.ZaKernel.defs (F := Bits)) (onTc (τ := Cert.ZaKernel.τ) (Cert.ZaKernel.main (F := Bits))) ⟨m, fun _ => 0, g⟩ (fun r => (∀ c : Dev Cert.ZaKernel.nD,
      r.2.mem ((c.tc : Thread Cert.ZaKernel.nD Cert.ZaKernel.τ).loc Cert.ZaKernel.main_arg0) = m ((c.tc : Thread Cert.ZaKernel.nD Cert.ZaKernel.τ).loc Cert.ZaKernel.main_arg0)
      ∧ r.2.mem ((c.tc : Thread Cert.ZaKernel.nD Cert.ZaKernel.τ).loc Cert.ZaKernel.main_arg1) = m ((c.tc : Thread Cert.ZaKernel.nD Cert.ZaKernel.τ).loc Cert.ZaKernel.main_arg1))
      ∧ r.2.sem = fun _ => 0)

def quiescent_ZaKernelIdeal [hZaKernelIdeal : Cert.ZaKernelIdeal.Facts] : Prop :=
  ∀ (m : (ℓ : Loc Cert.ZaKernelIdeal.nD Cert.ZaKernelIdeal.τ Cert.ZaKernelIdeal.sig) → Buf (Elt Ideal) ℓ) (g : Dev Cert.ZaKernelIdeal.nD → PrngReg), Pre_ZaKernelIdeal m →
    θ_run (Cert.ZaKernelIdeal.defs (F := Ideal)) (onTc (τ := Cert.ZaKernelIdeal.τ) (Cert.ZaKernelIdeal.main (F := Ideal))) ⟨m, fun _ => 0, g⟩ (fun r => (∀ c : Dev Cert.ZaKernelIdeal.nD,
      r.2.mem ((c.tc : Thread Cert.ZaKernelIdeal.nD Cert.ZaKernelIdeal.τ).loc Cert.ZaKernelIdeal.main_arg0) = m ((c.tc : Thread Cert.ZaKernelIdeal.nD Cert.ZaKernelIdeal.τ).loc Cert.ZaKernelIdeal.main_arg0)
      ∧ r.2.mem ((c.tc : Thread Cert.ZaKernelIdeal.nD Cert.ZaKernelIdeal.τ).loc Cert.ZaKernelIdeal.main_arg1) = m ((c.tc : Thread Cert.ZaKernelIdeal.nD Cert.ZaKernelIdeal.τ).loc Cert.ZaKernelIdeal.main_arg1))
      ∧ r.2.sem = fun _ => 0)

def quiescent_ZaReferenceIdeal [hZaReferenceIdeal : Cert.ZaReferenceIdeal.Facts] : Prop :=
  ∀ (m : (ℓ : Loc Cert.ZaReferenceIdeal.nD Cert.ZaReferenceIdeal.τ Cert.ZaReferenceIdeal.sig) → Buf (Elt Ideal) ℓ) (g : Dev Cert.ZaReferenceIdeal.nD → PrngReg), Pre_ZaReferenceIdeal m →
    θ_run (Cert.ZaReferenceIdeal.defs (F := Ideal)) (onTc (τ := Cert.ZaReferenceIdeal.τ) (Cert.ZaReferenceIdeal.main (F := Ideal))) ⟨m, fun _ => 0, g⟩ (fun r => (∀ c : Dev Cert.ZaReferenceIdeal.nD,
      r.2.mem ((c.tc : Thread Cert.ZaReferenceIdeal.nD Cert.ZaReferenceIdeal.τ).loc Cert.ZaReferenceIdeal.main_arg0) = m ((c.tc : Thread Cert.ZaReferenceIdeal.nD Cert.ZaReferenceIdeal.τ).loc Cert.ZaReferenceIdeal.main_arg0)
      ∧ r.2.mem ((c.tc : Thread Cert.ZaReferenceIdeal.nD Cert.ZaReferenceIdeal.τ).loc Cert.ZaReferenceIdeal.main_arg1) = m ((c.tc : Thread Cert.ZaReferenceIdeal.nD Cert.ZaReferenceIdeal.τ).loc Cert.ZaReferenceIdeal.main_arg1))
      ∧ r.2.sem = fun _ => 0)

def quiescent_QkviKernel [hQkviKernel : Cert.QkviKernel.Facts] : Prop :=
  ∀ (m : (ℓ : Loc Cert.QkviKernel.nD Cert.QkviKernel.τ Cert.QkviKernel.sig) → Buf (Elt Bits) ℓ) (g : Dev Cert.QkviKernel.nD → PrngReg), Pre_QkviKernel m →
    θ_run (Cert.QkviKernel.defs (F := Bits)) (onTc (τ := Cert.QkviKernel.τ) (Cert.QkviKernel.main (F := Bits))) ⟨m, fun _ => 0, g⟩ (fun r => (∀ c : Dev Cert.QkviKernel.nD,
      r.2.mem ((c.tc : Thread Cert.QkviKernel.nD Cert.QkviKernel.τ).loc Cert.QkviKernel.main_arg0) = m ((c.tc : Thread Cert.QkviKernel.nD Cert.QkviKernel.τ).loc Cert.QkviKernel.main_arg0)
      ∧ r.2.mem ((c.tc : Thread Cert.QkviKernel.nD Cert.QkviKernel.τ).loc Cert.QkviKernel.main_arg1) = m ((c.tc : Thread Cert.QkviKernel.nD Cert.QkviKernel.τ).loc Cert.QkviKernel.main_arg1))
      ∧ r.2.sem = fun _ => 0)

def quiescent_QkviKernelIdeal [hQkviKernelIdeal : Cert.QkviKernelIdeal.Facts] : Prop :=
  ∀ (m : (ℓ : Loc Cert.QkviKernelIdeal.nD Cert.QkviKernelIdeal.τ Cert.QkviKernelIdeal.sig) → Buf (Elt Ideal) ℓ) (g : Dev Cert.QkviKernelIdeal.nD → PrngReg), Pre_QkviKernelIdeal m →
    θ_run (Cert.QkviKernelIdeal.defs (F := Ideal)) (onTc (τ := Cert.QkviKernelIdeal.τ) (Cert.QkviKernelIdeal.main (F := Ideal))) ⟨m, fun _ => 0, g⟩ (fun r => (∀ c : Dev Cert.QkviKernelIdeal.nD,
      r.2.mem ((c.tc : Thread Cert.QkviKernelIdeal.nD Cert.QkviKernelIdeal.τ).loc Cert.QkviKernelIdeal.main_arg0) = m ((c.tc : Thread Cert.QkviKernelIdeal.nD Cert.QkviKernelIdeal.τ).loc Cert.QkviKernelIdeal.main_arg0)
      ∧ r.2.mem ((c.tc : Thread Cert.QkviKernelIdeal.nD Cert.QkviKernelIdeal.τ).loc Cert.QkviKernelIdeal.main_arg1) = m ((c.tc : Thread Cert.QkviKernelIdeal.nD Cert.QkviKernelIdeal.τ).loc Cert.QkviKernelIdeal.main_arg1))
      ∧ r.2.sem = fun _ => 0)

def quiescent_QkviReferenceIdeal [hQkviReferenceIdeal : Cert.QkviReferenceIdeal.Facts] : Prop :=
  ∀ (m : (ℓ : Loc Cert.QkviReferenceIdeal.nD Cert.QkviReferenceIdeal.τ Cert.QkviReferenceIdeal.sig) → Buf (Elt Ideal) ℓ) (g : Dev Cert.QkviReferenceIdeal.nD → PrngReg), Pre_QkviReferenceIdeal m →
    θ_run (Cert.QkviReferenceIdeal.defs (F := Ideal)) (onTc (τ := Cert.QkviReferenceIdeal.τ) (Cert.QkviReferenceIdeal.main (F := Ideal))) ⟨m, fun _ => 0, g⟩ (fun r => (∀ c : Dev Cert.QkviReferenceIdeal.nD,
      r.2.mem ((c.tc : Thread Cert.QkviReferenceIdeal.nD Cert.QkviReferenceIdeal.τ).loc Cert.QkviReferenceIdeal.main_arg0) = m ((c.tc : Thread Cert.QkviReferenceIdeal.nD Cert.QkviReferenceIdeal.τ).loc Cert.QkviReferenceIdeal.main_arg0)
      ∧ r.2.mem ((c.tc : Thread Cert.QkviReferenceIdeal.nD Cert.QkviReferenceIdeal.τ).loc Cert.QkviReferenceIdeal.main_arg1) = m ((c.tc : Thread Cert.QkviReferenceIdeal.nD Cert.QkviReferenceIdeal.τ).loc Cert.QkviReferenceIdeal.main_arg1))
      ∧ r.2.sem = fun _ => 0)

def quiescent_SmKernel [hSmKernel : Cert.SmKernel.Facts] : Prop :=
  ∀ (m : (ℓ : Loc Cert.SmKernel.nD Cert.SmKernel.τ Cert.SmKernel.sig) → Buf (Elt Bits) ℓ) (g : Dev Cert.SmKernel.nD → PrngReg), Pre_SmKernel m →
    θ_run (Cert.SmKernel.defs (F := Bits)) (onTc (τ := Cert.SmKernel.τ) (Cert.SmKernel.main (F := Bits))) ⟨m, fun _ => 0, g⟩ (fun r => (∀ c : Dev Cert.SmKernel.nD,
      r.2.mem ((c.tc : Thread Cert.SmKernel.nD Cert.SmKernel.τ).loc Cert.SmKernel.main_arg0) = m ((c.tc : Thread Cert.SmKernel.nD Cert.SmKernel.τ).loc Cert.SmKernel.main_arg0)
      ∧ r.2.mem ((c.tc : Thread Cert.SmKernel.nD Cert.SmKernel.τ).loc Cert.SmKernel.main_arg1) = m ((c.tc : Thread Cert.SmKernel.nD Cert.SmKernel.τ).loc Cert.SmKernel.main_arg1))
      ∧ r.2.sem = fun _ => 0)

def quiescent_SmKernelIdeal [hSmKernelIdeal : Cert.SmKernelIdeal.Facts] : Prop :=
  ∀ (m : (ℓ : Loc Cert.SmKernelIdeal.nD Cert.SmKernelIdeal.τ Cert.SmKernelIdeal.sig) → Buf (Elt Ideal) ℓ) (g : Dev Cert.SmKernelIdeal.nD → PrngReg), Pre_SmKernelIdeal m →
    θ_run (Cert.SmKernelIdeal.defs (F := Ideal)) (onTc (τ := Cert.SmKernelIdeal.τ) (Cert.SmKernelIdeal.main (F := Ideal))) ⟨m, fun _ => 0, g⟩ (fun r => (∀ c : Dev Cert.SmKernelIdeal.nD,
      r.2.mem ((c.tc : Thread Cert.SmKernelIdeal.nD Cert.SmKernelIdeal.τ).loc Cert.SmKernelIdeal.main_arg0) = m ((c.tc : Thread Cert.SmKernelIdeal.nD Cert.SmKernelIdeal.τ).loc Cert.SmKernelIdeal.main_arg0)
      ∧ r.2.mem ((c.tc : Thread Cert.SmKernelIdeal.nD Cert.SmKernelIdeal.τ).loc Cert.SmKernelIdeal.main_arg1) = m ((c.tc : Thread Cert.SmKernelIdeal.nD Cert.SmKernelIdeal.τ).loc Cert.SmKernelIdeal.main_arg1))
      ∧ r.2.sem = fun _ => 0)

def quiescent_SmReferenceIdeal [hSmReferenceIdeal : Cert.SmReferenceIdeal.Facts] : Prop :=
  ∀ (m : (ℓ : Loc Cert.SmReferenceIdeal.nD Cert.SmReferenceIdeal.τ Cert.SmReferenceIdeal.sig) → Buf (Elt Ideal) ℓ) (g : Dev Cert.SmReferenceIdeal.nD → PrngReg), Pre_SmReferenceIdeal m →
    θ_run (Cert.SmReferenceIdeal.defs (F := Ideal)) (onTc (τ := Cert.SmReferenceIdeal.τ) (Cert.SmReferenceIdeal.main (F := Ideal))) ⟨m, fun _ => 0, g⟩ (fun r => (∀ c : Dev Cert.SmReferenceIdeal.nD,
      r.2.mem ((c.tc : Thread Cert.SmReferenceIdeal.nD Cert.SmReferenceIdeal.τ).loc Cert.SmReferenceIdeal.main_arg0) = m ((c.tc : Thread Cert.SmReferenceIdeal.nD Cert.SmReferenceIdeal.τ).loc Cert.SmReferenceIdeal.main_arg0)
      ∧ r.2.mem ((c.tc : Thread Cert.SmReferenceIdeal.nD Cert.SmReferenceIdeal.τ).loc Cert.SmReferenceIdeal.main_arg1) = m ((c.tc : Thread Cert.SmReferenceIdeal.nD Cert.SmReferenceIdeal.τ).loc Cert.SmReferenceIdeal.main_arg1))
      ∧ r.2.sem = fun _ => 0)

def quiescent_PleKernel [hPleKernel : Cert.PleKernel.Facts] : Prop :=
  ∀ (m : (ℓ : Loc Cert.PleKernel.nD Cert.PleKernel.τ Cert.PleKernel.sig) → Buf (Elt Bits) ℓ) (g : Dev Cert.PleKernel.nD → PrngReg), Pre_PleKernel m →
    θ_run (Cert.PleKernel.defs (F := Bits)) (onTc (τ := Cert.PleKernel.τ) (Cert.PleKernel.main (F := Bits))) ⟨m, fun _ => 0, g⟩ (fun r => (∀ c : Dev Cert.PleKernel.nD,
      r.2.mem ((c.tc : Thread Cert.PleKernel.nD Cert.PleKernel.τ).loc Cert.PleKernel.main_arg0) = m ((c.tc : Thread Cert.PleKernel.nD Cert.PleKernel.τ).loc Cert.PleKernel.main_arg0)
      ∧ r.2.mem ((c.tc : Thread Cert.PleKernel.nD Cert.PleKernel.τ).loc Cert.PleKernel.main_arg1) = m ((c.tc : Thread Cert.PleKernel.nD Cert.PleKernel.τ).loc Cert.PleKernel.main_arg1)
      ∧ r.2.mem ((c.tc : Thread Cert.PleKernel.nD Cert.PleKernel.τ).loc Cert.PleKernel.main_arg2) = m ((c.tc : Thread Cert.PleKernel.nD Cert.PleKernel.τ).loc Cert.PleKernel.main_arg2)
      ∧ r.2.mem ((c.tc : Thread Cert.PleKernel.nD Cert.PleKernel.τ).loc Cert.PleKernel.main_arg3) = m ((c.tc : Thread Cert.PleKernel.nD Cert.PleKernel.τ).loc Cert.PleKernel.main_arg3)
      ∧ r.2.mem ((c.tc : Thread Cert.PleKernel.nD Cert.PleKernel.τ).loc Cert.PleKernel.main_arg4) = m ((c.tc : Thread Cert.PleKernel.nD Cert.PleKernel.τ).loc Cert.PleKernel.main_arg4)
      ∧ r.2.mem ((c.tc : Thread Cert.PleKernel.nD Cert.PleKernel.τ).loc Cert.PleKernel.main_arg5) = m ((c.tc : Thread Cert.PleKernel.nD Cert.PleKernel.τ).loc Cert.PleKernel.main_arg5)
      ∧ r.2.mem ((c.tc : Thread Cert.PleKernel.nD Cert.PleKernel.τ).loc Cert.PleKernel.main_arg6) = m ((c.tc : Thread Cert.PleKernel.nD Cert.PleKernel.τ).loc Cert.PleKernel.main_arg6))
      ∧ r.2.sem = fun _ => 0)

def quiescent_PleKernelIdeal [hPleKernelIdeal : Cert.PleKernelIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg), Pre_PleKernelIdeal m →
    θ_run (Cert.PleKernelIdeal.defs (F := Ideal)) (onTc (τ := Cert.PleKernelIdeal.τ) (Cert.PleKernelIdeal.main (F := Ideal))) ⟨m, fun _ => 0, g⟩ (fun r => (∀ c : Dev Cert.PleKernelIdeal.nD,
      r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
      ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
      ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
      ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
      ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
      ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5)
      ∧ r.2.mem ((c.tc : Thread Cert.PleKernelIdeal.nD Cert.PleKernelIdeal.τ).loc Cert.PleKernelIdeal.main_arg6) = m ((c.tc : Thread Cert.PleKernelIdeal.nD Cert.PleKernelIdeal.τ).loc Cert.PleKernelIdeal.main_arg6))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5)
      ∧ r.2.mem ((c.tc : Thread Cert.PleReferenceIdeal.nD Cert.PleReferenceIdeal.τ).loc Cert.PleReferenceIdeal.main_arg6) = m ((c.tc : Thread Cert.PleReferenceIdeal.nD Cert.PleReferenceIdeal.τ).loc Cert.PleReferenceIdeal.main_arg6))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_ZaKernel_ZaKernelIdeal : Prop :=
  True

def algebraic_ZaKernelIdeal_ZaReferenceIdeal [hZaKernelIdeal : Cert.ZaKernelIdeal.Facts] [hZaReferenceIdeal : Cert.ZaReferenceIdeal.Facts] : Prop :=
  ∀ (m : (ℓ : Loc Cert.ZaKernelIdeal.nD Cert.ZaKernelIdeal.τ Cert.ZaKernelIdeal.sig) → Buf (Elt Ideal) ℓ) (g : Dev Cert.ZaKernelIdeal.nD → PrngReg)
    (m' : (ℓ : Loc Cert.ZaReferenceIdeal.nD Cert.ZaReferenceIdeal.τ Cert.ZaReferenceIdeal.sig) → Buf (Elt Ideal) ℓ) (g' : Dev Cert.ZaReferenceIdeal.nD → PrngReg), Pre_ZaKernelIdeal m →
    (∀ c : Dev Cert.ZaKernelIdeal.nD,
      m' ((c.tc : Thread Cert.ZaReferenceIdeal.nD Cert.ZaReferenceIdeal.τ).loc Cert.ZaReferenceIdeal.main_arg0) = m ((c.tc : Thread Cert.ZaKernelIdeal.nD Cert.ZaKernelIdeal.τ).loc Cert.ZaKernelIdeal.main_arg0)
      ∧ m' ((c.tc : Thread Cert.ZaReferenceIdeal.nD Cert.ZaReferenceIdeal.τ).loc Cert.ZaReferenceIdeal.main_arg1) = m ((c.tc : Thread Cert.ZaKernelIdeal.nD Cert.ZaKernelIdeal.τ).loc Cert.ZaKernelIdeal.main_arg1)) →
    ∃ (v0 : (c : Dev Cert.ZaKernelIdeal.nD) → Buf (Elt Ideal) ((c.tc : Thread Cert.ZaKernelIdeal.nD Cert.ZaKernelIdeal.τ).loc Cert.ZaKernelIdeal.main_v3)),
      θ_run (Cert.ZaKernelIdeal.defs (F := Ideal)) (onTc (τ := Cert.ZaKernelIdeal.τ) (Cert.ZaKernelIdeal.main (F := Ideal))) ⟨m, fun _ => 0, g⟩ (fun r => ∀ c : Dev Cert.ZaKernelIdeal.nD,
          r.2.mem ((c.tc : Thread Cert.ZaKernelIdeal.nD Cert.ZaKernelIdeal.τ).loc Cert.ZaKernelIdeal.main_v3) = v0 c
          ∧ r.2.mem ((c.tc : Thread Cert.ZaKernelIdeal.nD Cert.ZaKernelIdeal.τ).loc Cert.ZaKernelIdeal.main_arg0) = m ((c.tc : Thread Cert.ZaKernelIdeal.nD Cert.ZaKernelIdeal.τ).loc Cert.ZaKernelIdeal.main_arg0)
          ∧ r.2.mem ((c.tc : Thread Cert.ZaKernelIdeal.nD Cert.ZaKernelIdeal.τ).loc Cert.ZaKernelIdeal.main_arg1) = m ((c.tc : Thread Cert.ZaKernelIdeal.nD Cert.ZaKernelIdeal.τ).loc Cert.ZaKernelIdeal.main_arg1))
      ∧ θ_run (Cert.ZaReferenceIdeal.defs (F := Ideal)) (onTc (τ := Cert.ZaReferenceIdeal.τ) (Cert.ZaReferenceIdeal.main (F := Ideal))) ⟨m', fun _ => 0, g'⟩ (fun r => ∀ c : Dev Cert.ZaReferenceIdeal.nD,
          r.2.mem ((c.tc : Thread Cert.ZaReferenceIdeal.nD Cert.ZaReferenceIdeal.τ).loc Cert.ZaReferenceIdeal.main_v10) = v0 c
          ∧ r.2.mem ((c.tc : Thread Cert.ZaReferenceIdeal.nD Cert.ZaReferenceIdeal.τ).loc Cert.ZaReferenceIdeal.main_arg0) = m' ((c.tc : Thread Cert.ZaReferenceIdeal.nD Cert.ZaReferenceIdeal.τ).loc Cert.ZaReferenceIdeal.main_arg0)
          ∧ r.2.mem ((c.tc : Thread Cert.ZaReferenceIdeal.nD Cert.ZaReferenceIdeal.τ).loc Cert.ZaReferenceIdeal.main_arg1) = m' ((c.tc : Thread Cert.ZaReferenceIdeal.nD Cert.ZaReferenceIdeal.τ).loc Cert.ZaReferenceIdeal.main_arg1))

def preserves_QkviKernel_QkviKernelIdeal : Prop :=
  True

def algebraic_QkviKernelIdeal_QkviReferenceIdeal [hQkviKernelIdeal : Cert.QkviKernelIdeal.Facts] [hQkviReferenceIdeal : Cert.QkviReferenceIdeal.Facts] : Prop :=
  ∀ (m : (ℓ : Loc Cert.QkviKernelIdeal.nD Cert.QkviKernelIdeal.τ Cert.QkviKernelIdeal.sig) → Buf (Elt Ideal) ℓ) (g : Dev Cert.QkviKernelIdeal.nD → PrngReg)
    (m' : (ℓ : Loc Cert.QkviReferenceIdeal.nD Cert.QkviReferenceIdeal.τ Cert.QkviReferenceIdeal.sig) → Buf (Elt Ideal) ℓ) (g' : Dev Cert.QkviReferenceIdeal.nD → PrngReg), Pre_QkviKernelIdeal m →
    (∀ c : Dev Cert.QkviKernelIdeal.nD,
      m' ((c.tc : Thread Cert.QkviReferenceIdeal.nD Cert.QkviReferenceIdeal.τ).loc Cert.QkviReferenceIdeal.main_arg0) = m ((c.tc : Thread Cert.QkviKernelIdeal.nD Cert.QkviKernelIdeal.τ).loc Cert.QkviKernelIdeal.main_arg0)
      ∧ m' ((c.tc : Thread Cert.QkviReferenceIdeal.nD Cert.QkviReferenceIdeal.τ).loc Cert.QkviReferenceIdeal.main_arg1) = m ((c.tc : Thread Cert.QkviKernelIdeal.nD Cert.QkviKernelIdeal.τ).loc Cert.QkviKernelIdeal.main_arg1)) →
    ∃ (v0 : (c : Dev Cert.QkviKernelIdeal.nD) → Buf (Elt Ideal) ((c.tc : Thread Cert.QkviKernelIdeal.nD Cert.QkviKernelIdeal.τ).loc Cert.QkviKernelIdeal.main_v3)),
      θ_run (Cert.QkviKernelIdeal.defs (F := Ideal)) (onTc (τ := Cert.QkviKernelIdeal.τ) (Cert.QkviKernelIdeal.main (F := Ideal))) ⟨m, fun _ => 0, g⟩ (fun r => ∀ c : Dev Cert.QkviKernelIdeal.nD,
          r.2.mem ((c.tc : Thread Cert.QkviKernelIdeal.nD Cert.QkviKernelIdeal.τ).loc Cert.QkviKernelIdeal.main_v3) = v0 c
          ∧ r.2.mem ((c.tc : Thread Cert.QkviKernelIdeal.nD Cert.QkviKernelIdeal.τ).loc Cert.QkviKernelIdeal.main_arg0) = m ((c.tc : Thread Cert.QkviKernelIdeal.nD Cert.QkviKernelIdeal.τ).loc Cert.QkviKernelIdeal.main_arg0)
          ∧ r.2.mem ((c.tc : Thread Cert.QkviKernelIdeal.nD Cert.QkviKernelIdeal.τ).loc Cert.QkviKernelIdeal.main_arg1) = m ((c.tc : Thread Cert.QkviKernelIdeal.nD Cert.QkviKernelIdeal.τ).loc Cert.QkviKernelIdeal.main_arg1))
      ∧ θ_run (Cert.QkviReferenceIdeal.defs (F := Ideal)) (onTc (τ := Cert.QkviReferenceIdeal.τ) (Cert.QkviReferenceIdeal.main (F := Ideal))) ⟨m', fun _ => 0, g'⟩ (fun r => ∀ c : Dev Cert.QkviReferenceIdeal.nD,
          r.2.mem ((c.tc : Thread Cert.QkviReferenceIdeal.nD Cert.QkviReferenceIdeal.τ).loc Cert.QkviReferenceIdeal.main_v11) = v0 c
          ∧ r.2.mem ((c.tc : Thread Cert.QkviReferenceIdeal.nD Cert.QkviReferenceIdeal.τ).loc Cert.QkviReferenceIdeal.main_arg0) = m' ((c.tc : Thread Cert.QkviReferenceIdeal.nD Cert.QkviReferenceIdeal.τ).loc Cert.QkviReferenceIdeal.main_arg0)
          ∧ r.2.mem ((c.tc : Thread Cert.QkviReferenceIdeal.nD Cert.QkviReferenceIdeal.τ).loc Cert.QkviReferenceIdeal.main_arg1) = m' ((c.tc : Thread Cert.QkviReferenceIdeal.nD Cert.QkviReferenceIdeal.τ).loc Cert.QkviReferenceIdeal.main_arg1))

def preserves_SmKernel_SmKernelIdeal : Prop :=
  True

def algebraic_SmKernelIdeal_SmReferenceIdeal [hSmKernelIdeal : Cert.SmKernelIdeal.Facts] [hSmReferenceIdeal : Cert.SmReferenceIdeal.Facts] : Prop :=
  ∀ (m : (ℓ : Loc Cert.SmKernelIdeal.nD Cert.SmKernelIdeal.τ Cert.SmKernelIdeal.sig) → Buf (Elt Ideal) ℓ) (g : Dev Cert.SmKernelIdeal.nD → PrngReg)
    (m' : (ℓ : Loc Cert.SmReferenceIdeal.nD Cert.SmReferenceIdeal.τ Cert.SmReferenceIdeal.sig) → Buf (Elt Ideal) ℓ) (g' : Dev Cert.SmReferenceIdeal.nD → PrngReg), Pre_SmKernelIdeal m →
    (∀ c : Dev Cert.SmKernelIdeal.nD,
      m' ((c.tc : Thread Cert.SmReferenceIdeal.nD Cert.SmReferenceIdeal.τ).loc Cert.SmReferenceIdeal.main_arg0) = m ((c.tc : Thread Cert.SmKernelIdeal.nD Cert.SmKernelIdeal.τ).loc Cert.SmKernelIdeal.main_arg0)
      ∧ m' ((c.tc : Thread Cert.SmReferenceIdeal.nD Cert.SmReferenceIdeal.τ).loc Cert.SmReferenceIdeal.main_arg1) = m ((c.tc : Thread Cert.SmKernelIdeal.nD Cert.SmKernelIdeal.τ).loc Cert.SmKernelIdeal.main_arg1)) →
    ∃ (v0 : (c : Dev Cert.SmKernelIdeal.nD) → Buf (Elt Ideal) ((c.tc : Thread Cert.SmKernelIdeal.nD Cert.SmKernelIdeal.τ).loc Cert.SmKernelIdeal.main_v6)),
      θ_run (Cert.SmKernelIdeal.defs (F := Ideal)) (onTc (τ := Cert.SmKernelIdeal.τ) (Cert.SmKernelIdeal.main (F := Ideal))) ⟨m, fun _ => 0, g⟩ (fun r => ∀ c : Dev Cert.SmKernelIdeal.nD,
          r.2.mem ((c.tc : Thread Cert.SmKernelIdeal.nD Cert.SmKernelIdeal.τ).loc Cert.SmKernelIdeal.main_v6) = v0 c
          ∧ r.2.mem ((c.tc : Thread Cert.SmKernelIdeal.nD Cert.SmKernelIdeal.τ).loc Cert.SmKernelIdeal.main_arg0) = m ((c.tc : Thread Cert.SmKernelIdeal.nD Cert.SmKernelIdeal.τ).loc Cert.SmKernelIdeal.main_arg0)
          ∧ r.2.mem ((c.tc : Thread Cert.SmKernelIdeal.nD Cert.SmKernelIdeal.τ).loc Cert.SmKernelIdeal.main_arg1) = m ((c.tc : Thread Cert.SmKernelIdeal.nD Cert.SmKernelIdeal.τ).loc Cert.SmKernelIdeal.main_arg1))
      ∧ θ_run (Cert.SmReferenceIdeal.defs (F := Ideal)) (onTc (τ := Cert.SmReferenceIdeal.τ) (Cert.SmReferenceIdeal.main (F := Ideal))) ⟨m', fun _ => 0, g'⟩ (fun r => ∀ c : Dev Cert.SmReferenceIdeal.nD,
          r.2.mem ((c.tc : Thread Cert.SmReferenceIdeal.nD Cert.SmReferenceIdeal.τ).loc Cert.SmReferenceIdeal.main_v11) = v0 c
          ∧ r.2.mem ((c.tc : Thread Cert.SmReferenceIdeal.nD Cert.SmReferenceIdeal.τ).loc Cert.SmReferenceIdeal.main_arg0) = m' ((c.tc : Thread Cert.SmReferenceIdeal.nD Cert.SmReferenceIdeal.τ).loc Cert.SmReferenceIdeal.main_arg0)
          ∧ r.2.mem ((c.tc : Thread Cert.SmReferenceIdeal.nD Cert.SmReferenceIdeal.τ).loc Cert.SmReferenceIdeal.main_arg1) = m' ((c.tc : Thread Cert.SmReferenceIdeal.nD Cert.SmReferenceIdeal.τ).loc Cert.SmReferenceIdeal.main_arg1))

def preserves_PleKernel_PleKernelIdeal : Prop :=
  True

def algebraic_PleKernelIdeal_PleReferenceIdeal [hPleKernelIdeal : Cert.PleKernelIdeal.Facts] [hPleReferenceIdeal : Cert.PleReferenceIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleKernelIdeal m →
    (∀ c : Dev Cert.PleKernelIdeal.nD,
      m' ((c.tc : Thread Cert.PleReferenceIdeal.nD Cert.PleReferenceIdeal.τ).loc Cert.PleReferenceIdeal.main_arg0) = m ((c.tc : Thread Cert.PleKernelIdeal.nD Cert.PleKernelIdeal.τ).loc Cert.PleKernelIdeal.main_arg0)
      ∧ m' ((c.tc : Thread Cert.PleReferenceIdeal.nD Cert.PleReferenceIdeal.τ).loc Cert.PleReferenceIdeal.main_arg1) = m ((c.tc : Thread Cert.PleKernelIdeal.nD Cert.PleKernelIdeal.τ).loc Cert.PleKernelIdeal.main_arg1)
      ∧ m' ((c.tc : Thread Cert.PleReferenceIdeal.nD Cert.PleReferenceIdeal.τ).loc Cert.PleReferenceIdeal.main_arg2) = m ((c.tc : Thread Cert.PleKernelIdeal.nD Cert.PleKernelIdeal.τ).loc Cert.PleKernelIdeal.main_arg2)
      ∧ m' ((c.tc : Thread Cert.PleReferenceIdeal.nD Cert.PleReferenceIdeal.τ).loc Cert.PleReferenceIdeal.main_arg3) = m ((c.tc : Thread Cert.PleKernelIdeal.nD Cert.PleKernelIdeal.τ).loc Cert.PleKernelIdeal.main_arg3)
      ∧ m' ((c.tc : Thread Cert.PleReferenceIdeal.nD Cert.PleReferenceIdeal.τ).loc Cert.PleReferenceIdeal.main_arg4) = m ((c.tc : Thread Cert.PleKernelIdeal.nD Cert.PleKernelIdeal.τ).loc Cert.PleKernelIdeal.main_arg4)
      ∧ m' ((c.tc : Thread Cert.PleReferenceIdeal.nD Cert.PleReferenceIdeal.τ).loc Cert.PleReferenceIdeal.main_arg5) = m ((c.tc : Thread Cert.PleKernelIdeal.nD Cert.PleKernelIdeal.τ).loc Cert.PleKernelIdeal.main_arg5)
      ∧ m' ((c.tc : Thread Cert.PleReferenceIdeal.nD Cert.PleReferenceIdeal.τ).loc Cert.PleReferenceIdeal.main_arg6) = m ((c.tc : Thread Cert.PleKernelIdeal.nD Cert.PleKernelIdeal.τ).loc Cert.PleKernelIdeal.main_arg6)) →
    ∃ (v0 : (c : Dev Cert.PleKernelIdeal.nD) → Buf (Elt Ideal) ((c.tc : Thread Cert.PleKernelIdeal.nD Cert.PleKernelIdeal.τ).loc Cert.PleKernelIdeal.main_v5_0)) (v1 : (c : Dev Cert.PleKernelIdeal.nD) → Buf (Elt Ideal) ((c.tc : Thread Cert.PleKernelIdeal.nD Cert.PleKernelIdeal.τ).loc Cert.PleKernelIdeal.main_v5_1)),
      θ_run (Cert.PleKernelIdeal.defs (F := Ideal)) (onTc (τ := Cert.PleKernelIdeal.τ) (Cert.PleKernelIdeal.main (F := Ideal))) ⟨m, fun _ => 0, g⟩ (fun r => ∀ c : Dev Cert.PleKernelIdeal.nD,
          r.2.mem ((c.tc : Thread Cert.PleKernelIdeal.nD Cert.PleKernelIdeal.τ).loc Cert.PleKernelIdeal.main_v5_0) = v0 c
          ∧ r.2.mem ((c.tc : Thread Cert.PleKernelIdeal.nD Cert.PleKernelIdeal.τ).loc Cert.PleKernelIdeal.main_v5_1) = v1 c
          ∧ r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
          ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
          ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
          ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
          ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
          ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5)
          ∧ r.2.mem ((c.tc : Thread Cert.PleKernelIdeal.nD Cert.PleKernelIdeal.τ).loc Cert.PleKernelIdeal.main_arg6) = m ((c.tc : Thread Cert.PleKernelIdeal.nD Cert.PleKernelIdeal.τ).loc Cert.PleKernelIdeal.main_arg6))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v36) = v0 c
          ∧ r.2.mem ((c.tc : Thread Cert.PleReferenceIdeal.nD Cert.PleReferenceIdeal.τ).loc Cert.PleReferenceIdeal.main_v37) = v1 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5)
          ∧ r.2.mem ((c.tc : Thread Cert.PleReferenceIdeal.nD Cert.PleReferenceIdeal.τ).loc Cert.PleReferenceIdeal.main_arg6) = m' ((c.tc : Thread Cert.PleReferenceIdeal.nD Cert.PleReferenceIdeal.τ).loc Cert.PleReferenceIdeal.main_arg6))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)) →
    ∃ (v0 : (c : Dev Cert.OutKernelIdeal.nD) → Buf (Elt Ideal) ((c.tc : Thread Cert.OutKernelIdeal.nD Cert.OutKernelIdeal.τ).loc Cert.OutKernelIdeal.main_v5_0)) (v1 : (c : Dev Cert.OutKernelIdeal.nD) → Buf (Elt Ideal) ((c.tc : Thread Cert.OutKernelIdeal.nD Cert.OutKernelIdeal.τ).loc Cert.OutKernelIdeal.main_v5_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v5_0) = v0 c
          ∧ r.2.mem ((c.tc : Thread Cert.OutKernelIdeal.nD Cert.OutKernelIdeal.τ).loc Cert.OutKernelIdeal.main_v5_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v30) = v0 c
          ∧ r.2.mem ((c.tc : Thread Cert.OutReferenceIdeal.nD Cert.OutReferenceIdeal.τ).loc Cert.OutReferenceIdeal.main_v31) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7))

def Claim : Prop :=
  ∃ (hKernel : Cert.Kernel.Facts) (hKernelIdeal : Cert.KernelIdeal.Facts) (hReferenceIdeal : Cert.ReferenceIdeal.Facts) (hZaKernel : Cert.ZaKernel.Facts) (hZaKernelIdeal : Cert.ZaKernelIdeal.Facts) (hZaReferenceIdeal : Cert.ZaReferenceIdeal.Facts) (hQkviKernel : Cert.QkviKernel.Facts) (hQkviKernelIdeal : Cert.QkviKernelIdeal.Facts) (hQkviReferenceIdeal : Cert.QkviReferenceIdeal.Facts) (hSmKernel : Cert.SmKernel.Facts) (hSmKernelIdeal : Cert.SmKernelIdeal.Facts) (hSmReferenceIdeal : Cert.SmReferenceIdeal.Facts) (hPleKernel : Cert.PleKernel.Facts) (hPleKernelIdeal : Cert.PleKernelIdeal.Facts) (hPleReferenceIdeal : Cert.PleReferenceIdeal.Facts) (hOutKernel : Cert.OutKernel.Facts) (hOutKernelIdeal : Cert.OutKernelIdeal.Facts) (hOutReferenceIdeal : Cert.OutReferenceIdeal.Facts),
    quiescent_Kernel (hKernel := hKernel)
    ∧ quiescent_KernelIdeal (hKernelIdeal := hKernelIdeal)
    ∧ quiescent_ReferenceIdeal (hReferenceIdeal := hReferenceIdeal)
    ∧ quiescent_ZaKernel (hZaKernel := hZaKernel)
    ∧ quiescent_ZaKernelIdeal (hZaKernelIdeal := hZaKernelIdeal)
    ∧ quiescent_ZaReferenceIdeal (hZaReferenceIdeal := hZaReferenceIdeal)
    ∧ quiescent_QkviKernel (hQkviKernel := hQkviKernel)
    ∧ quiescent_QkviKernelIdeal (hQkviKernelIdeal := hQkviKernelIdeal)
    ∧ quiescent_QkviReferenceIdeal (hQkviReferenceIdeal := hQkviReferenceIdeal)
    ∧ quiescent_SmKernel (hSmKernel := hSmKernel)
    ∧ quiescent_SmKernelIdeal (hSmKernelIdeal := hSmKernelIdeal)
    ∧ quiescent_SmReferenceIdeal (hSmReferenceIdeal := hSmReferenceIdeal)
    ∧ quiescent_PleKernel (hPleKernel := hPleKernel)
    ∧ quiescent_PleKernelIdeal (hPleKernelIdeal := hPleKernelIdeal)
    ∧ quiescent_PleReferenceIdeal (hPleReferenceIdeal := hPleReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ preserves_Kernel_KernelIdeal
    ∧ algebraic_KernelIdeal_ReferenceIdeal (hKernelIdeal := hKernelIdeal) (hReferenceIdeal := hReferenceIdeal)
    ∧ preserves_ZaKernel_ZaKernelIdeal
    ∧ algebraic_ZaKernelIdeal_ZaReferenceIdeal (hZaKernelIdeal := hZaKernelIdeal) (hZaReferenceIdeal := hZaReferenceIdeal)
    ∧ preserves_QkviKernel_QkviKernelIdeal
    ∧ algebraic_QkviKernelIdeal_QkviReferenceIdeal (hQkviKernelIdeal := hQkviKernelIdeal) (hQkviReferenceIdeal := hQkviReferenceIdeal)
    ∧ preserves_SmKernel_SmKernelIdeal
    ∧ algebraic_SmKernelIdeal_SmReferenceIdeal (hSmKernelIdeal := hSmKernelIdeal) (hSmReferenceIdeal := hSmReferenceIdeal)
    ∧ preserves_PleKernel_PleKernelIdeal
    ∧ algebraic_PleKernelIdeal_PleReferenceIdeal (hPleKernelIdeal := hPleKernelIdeal) (hPleReferenceIdeal := hPleReferenceIdeal)
    ∧ preserves_OutKernel_OutKernelIdeal
    ∧ algebraic_OutKernelIdeal_OutReferenceIdeal (hOutKernelIdeal := hOutKernelIdeal) (hOutReferenceIdeal := hOutReferenceIdeal)
-- ==== Kernel.lean ====
abbrev S8192x2560 : Shape := ⟨2, ![8192, 2560]⟩
abbrev S8192x128 : Shape := ⟨2, ![8192, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S_ : Shape := ⟨0, ![]⟩
abbrev S128 : Shape := ⟨1, ![128]⟩
abbrev S1x128 : Shape := ⟨2, ![1, 128]⟩
abbrev S16x64 : Shape := ⟨2, ![16, 64]⟩
abbrev S1x1024 : Shape := ⟨2, ![1, 1024]⟩
abbrev S128x1 : Shape := ⟨2, ![128, 1]⟩
abbrev S128x1024 : Shape := ⟨2, ![128, 1024]⟩
abbrev S1x1536 : Shape := ⟨2, ![1, 1536]⟩
abbrev S8192x1024 : Shape := ⟨2, ![8192, 1024]⟩
abbrev S128x2560 : Shape := ⟨2, ![128, 2560]⟩
abbrev S128x128 : Shape := ⟨2, ![128, 128]⟩
abbrev S136x1536 : Shape := ⟨2, ![136, 1536]⟩
abbrev S8x1536 : Shape := ⟨2, ![8, 1536]⟩
abbrev S128x1536 : Shape := ⟨2, ![128, 1536]⟩
abbrev S128x256 : Shape := ⟨2, ![128, 256]⟩
abbrev S384x128 : Shape := ⟨2, ![384, 128]⟩
abbrev S384x1024 : Shape := ⟨2, ![384, 1024]⟩
abbrev S128x64 : Shape := ⟨2, ![128, 64]⟩
abbrev S128x512 : Shape := ⟨2, ![128, 512]⟩
abbrev S1x512 : Shape := ⟨2, ![1, 512]⟩

abbrev nBuf : Space → Nat
  | .hbm => 50
  | .vmem => 16
  | .smem => 0
  | _ => 0

abbrev bufTy : (tb : Table) → Fin (tcTables nBuf tb) → BufTy
  | .hbm, ⟨0, _⟩ => ⟨S8192x2560, .f32⟩
  | .hbm, ⟨1, _⟩ => ⟨S8192x128, .f32⟩
  | .hbm, ⟨2, _⟩ => ⟨S4x1536, .f32⟩
  | .hbm, ⟨3, _⟩ => ⟨S1536, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S1024, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S16, .f32⟩
  | .hbm, ⟨13, _⟩ => ⟨S16, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S16x64, .f32⟩
  | .hbm, ⟨19, _⟩ => ⟨S1024, .f32⟩
  | .hbm, ⟨20, _⟩ => ⟨S1x1024, .f32⟩
  | .hbm, ⟨21, _⟩ => ⟨S1024, .i32⟩
  | .hbm, ⟨22, _⟩ => ⟨S1x1024, .i32⟩
  | .hbm, ⟨23, _⟩ => ⟨S_, .i32⟩
  | .hbm, ⟨24, _⟩ => ⟨S_, .i32⟩
  | .hbm, ⟨25, _⟩ => ⟨S1x1024, .i32⟩
  | .hbm, ⟨26, _⟩ => ⟨S1x1024, .i32⟩
  | .hbm, ⟨27, _⟩ => ⟨S1x1024, .i32⟩
  | .hbm, ⟨28, _⟩ => ⟨S_, .i32⟩
  | .hbm, ⟨29, _⟩ => ⟨S1x1024, .i32⟩
  | .hbm, ⟨30, _⟩ => ⟨S1x1024, .i1⟩
  | .hbm, ⟨31, _⟩ => ⟨S1x1024, .i32⟩
  | .hbm, ⟨32, _⟩ => ⟨S1x1024, .i32⟩
  | .hbm, ⟨33, _⟩ => ⟨S_, .i32⟩
  | .hbm, ⟨34, _⟩ => ⟨S1x1024, .i32⟩
  | .hbm, ⟨35, _⟩ => ⟨S1x1024, .i1⟩
  | .hbm, ⟨36, _⟩ => ⟨S1x1024, .i1⟩
  | .hbm, ⟨37, _⟩ => ⟨S_, .i32⟩
  | .hbm, ⟨38, _⟩ => ⟨S1x1024, .i32⟩
  | .hbm, ⟨39, _⟩ => ⟨S1x1024, .i32⟩
  | .hbm, ⟨40, _⟩ => ⟨S1x1024, .i32⟩
  | .hbm, ⟨41, _⟩ => ⟨S128, .i32⟩
  | .hbm, ⟨42, _⟩ => ⟨S128x1, .i32⟩
  | .hbm, ⟨43, _⟩ => ⟨S128x1024, .i32⟩
  | .hbm, ⟨44, _⟩ => ⟨S128x1024, .i32⟩
  | .hbm, ⟨45, _⟩ => ⟨S128x1024, .i1⟩
  | .hbm, ⟨46, _⟩ => ⟨S128x1024, .f32⟩
  | .hbm, ⟨47, _⟩ => ⟨S1x1536, .f32⟩
  | .hbm, ⟨48, _⟩ => ⟨S1x1024, .f32⟩
  | .hbm, ⟨49, _⟩ => ⟨S8192x1024, .bf16⟩
  | .local _ .vmem, ⟨0, _⟩ => ⟨S128x2560, .f32⟩
  | .local _ .vmem, ⟨1, _⟩ => ⟨S128x2560, .f32⟩
  | .local _ .vmem, ⟨2, _⟩ => ⟨S128x128, .f32⟩
  | .local _ .vmem, ⟨3, _⟩ => ⟨S128x128, .f32⟩
  | .local _ .vmem, ⟨4, _⟩ => ⟨S4x1536, .f32⟩
  | .local _ .vmem, ⟨5, _⟩ => ⟨S1x1536, .f32⟩
  | .local _ .vmem, ⟨6, _⟩ => ⟨S1x128, .f32⟩
  | .local _ .vmem, ⟨7, _⟩ => ⟨S1x128, .f32⟩
  | .local _ .vmem, ⟨8, _⟩ => ⟨S1x1024, .f32⟩
  | .local _ .vmem, ⟨9, _⟩ => ⟨S1x1024, .f32⟩
  | .local _ .vmem, ⟨10, _⟩ => ⟨S128x1024, .f32⟩
  | .local _ .vmem, ⟨11, _⟩ => ⟨S128x1024, .bf16⟩
  | .local _ .vmem, ⟨12, _⟩ => ⟨S128x1024, .bf16⟩
  | .local _ .vmem, ⟨13, _⟩ => ⟨S136x1536, .f32⟩
  | .local _ .vmem, ⟨14, _⟩ => ⟨S128x1024, .f32⟩
  | .local _ .vmem, ⟨15, _⟩ => ⟨S128x1024, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_v6 : Ref sig .tc := ⟨.hbm, 30, rfl⟩
abbrev main_call2_v7 : Ref sig .tc := ⟨.hbm, 31, rfl⟩
abbrev main_call2_v8 : Ref sig .tc := ⟨.hbm, 32, rfl⟩
abbrev main_call2_c : Ref sig .tc := ⟨.hbm, 33, rfl⟩
abbrev main_call2_v9 : Ref sig .tc := ⟨.hbm, 34, rfl⟩
abbrev main_call2_v10 : Ref sig .tc := ⟨.hbm, 35, rfl⟩
abbrev main_call2_v11 : Ref sig .tc := ⟨.hbm, 36, rfl⟩
abbrev main_call2_c_0 : Ref sig .tc := ⟨.hbm, 37, rfl⟩
abbrev main_call2_v12 : Ref sig .tc := ⟨.hbm, 38, rfl⟩
abbrev main_call2_v13 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8192x2560 : Shape := ⟨2, ![8192, 2560]⟩
abbrev S8192x128 : Shape := ⟨2, ![8192, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S8192x1024 : Shape := ⟨2, ![8192, 1024]⟩
abbrev S2x4096x1024 : Shape := ⟨3, ![2, 4096, 1024]⟩
abbrev S8192x1536 : Shape := ⟨2, ![8192, 1536]⟩
abbrev S2x4096x1536 : Shape := ⟨3, ![2, 4096, 1536]⟩
abbrev S8192x16 : Shape := ⟨2, ![8192, 16]⟩
abbrev S2x4096x16 : Shape := ⟨3, ![2, 4096, 16]⟩
abbrev S_ : Shape := ⟨0, ![]⟩
abbrev S2x4099x1536 : Shape := ⟨3, ![2, 4099, 1536]⟩
abbrev S1x1536 : Shape := ⟨2, ![1, 1536]⟩
abbrev S1x1x1536 : Shape := ⟨3, ![1, 1, 1536]⟩
abbrev S2x4096x256 : Shape := ⟨3, ![2, 4096, 256]⟩
abbrev S2x4096x16x64 : Shape := ⟨4, ![2, 4096, 16, 64]⟩
abbrev S2x4096x2x128 : Shape := ⟨4, ![2, 4096, 2, 128]⟩
abbrev S1x1x16 : Shape := ⟨3, ![1, 1, 16]⟩
abbrev S2x4096x16x1 : Shape := ⟨4, ![2, 4096, 16, 1]⟩
abbrev S2x32x128x16x64 : Shape := ⟨5, ![2, 32, 128, 16, 64]⟩
abbrev S2x32x128x16 : Shape := ⟨4, ![2, 32, 128, 16]⟩
abbrev S2x32x128x2x128 : Shape := ⟨5, ![2, 32, 128, 2, 128]⟩
abbrev S128x128 : Shape := ⟨2, ![128, 128]⟩
abbrev S2x32x128x1x16 : Shape := ⟨5, ![2, 32, 128, 1, 16]⟩
abbrev S2x32x1x128x16 : Shape := ⟨5, ![2, 32, 1, 128, 16]⟩
abbrev S2x32x128x128x16 : Shape := ⟨5, ![2, 32, 128, 128, 16]⟩
abbrev S1x1x128x128x1 : Shape := ⟨5, ![1, 1, 128, 128, 1]⟩
abbrev S2x32x2x128x128 : Shape := ⟨5, ![2, 32, 2, 128, 128]⟩
abbrev S2x32x128x128x2 : Shape := ⟨5, ![2, 32, 128, 128, 2]⟩
abbrev S2x32x128x128x2x8 : Shape := ⟨6, ![2, 32, 128, 128, 2, 8]⟩
abbrev S2x32x16x64x128 : Shape := ⟨5, ![2, 32, 16, 64, 128]⟩
abbrev S2x32x128x2x8x128 : Shape := ⟨6, ![2, 32, 128, 2, 8, 128]⟩
abbrev S2x32x128x16x128 : Shape := ⟨5, ![2, 32, 128, 16, 128]⟩
abbrev S2x32x1x16 : Shape := ⟨4, ![2, 32, 1, 16]⟩
abbrev S2x32x128x16x1 : Shape := ⟨5, ![2, 32, 128, 16, 1]⟩
abbrev S2x32x16 : Shape := ⟨3, ![2, 32, 16]⟩
abbrev S2x16x64x128 : Shape := ⟨4, ![2, 16, 64, 128]⟩
abbrev S32x2x16x64x128 : Shape := ⟨5, ![32, 2, 16, 64, 128]⟩
abbrev S32x2x16 : Shape := ⟨3, ![32, 2, 16]⟩
abbrev S1x2x16x64x128 : Shape := ⟨5, ![1, 2, 16, 64, 128]⟩
abbrev S1x2x16 : Shape := ⟨3, ![1, 2, 16]⟩
abbrev S2x16 : Shape := ⟨2, ![2, 16]⟩
abbrev S2x16x1x1 : Shape := ⟨4, ![2, 16, 1, 1]⟩
abbrev S16x1 : Shape := ⟨2, ![16, 1]⟩
abbrev S1x1x16x1 : Shape := ⟨4, ![1, 1, 16, 1]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 218
  | .vmem => 0
  | .smem => 0
  | _ => 0

abbrev hbmTy0_0 (i : Nat) : BufTy := match i % 128 with
  | 0 => ⟨S8192x2560, .f32⟩
  | 1 => ⟨S8192x128, .f32⟩
  | 2 => ⟨S4x1536, .f32⟩
  | 3 => ⟨S1536, .f32⟩
  | 4 => ⟨S16, .f32⟩
  | 5 => ⟨S16, .f32⟩
  | 6 => ⟨S16, .f32⟩
  | 7 => ⟨S1024, .f32⟩
  | 8 => ⟨S8192x1024, .f32⟩
  | 9 => ⟨S2x4096x1024, .f32⟩
  | 10 => ⟨S8192x1536, .f32⟩
  | 11 => ⟨S2x4096x1536, .f32⟩
  | 12 => ⟨S8192x16, .f32⟩
  | 13 => ⟨S2x4096x16, .f32⟩
  | 14 => ⟨S_, .i32⟩
  | 15 => ⟨S_, .f32⟩
  | 16 => ⟨S2x4099x1536, .f32⟩
  | 17 => ⟨S2x4096x1536, .f32⟩
  | 18 => ⟨S1x1536, .f32⟩
  | 19 => ⟨S1536, .f32⟩
  | 20 => ⟨S1x1x1536, .f32⟩
  | 21 => ⟨S2x4096x1536, .f32⟩
  | 22 => ⟨S2x4096x1536, .f32⟩
  | 23 => ⟨S2x4096x1536, .f32⟩
  | 24 => ⟨S1x1536, .f32⟩
  | 25 => ⟨S1536, .f32⟩
  | 26 => ⟨S1x1x1536, .f32⟩
  | 27 => ⟨S2x4096x1536, .f32⟩
  | 28 => ⟨S2x4096x1536, .f32⟩
  | 29 => ⟨S2x4096x1536, .f32⟩
  | 30 => ⟨S2x4096x1536, .f32⟩
  | 31 => ⟨S1x1536, .f32⟩
  | 32 => ⟨S1536, .f32⟩
  | 33 => ⟨S1x1x1536, .f32⟩
  | 34 => ⟨S2x4096x1536, .f32⟩
  | 35 => ⟨S2x4096x1536, .f32⟩
  | 36 => ⟨S2x4096x1536, .f32⟩
  | 37 => ⟨S2x4096x1536, .f32⟩
  | 38 => ⟨S1x1536, .f32⟩
  | 39 => ⟨S1536, .f32⟩
  | 40 => ⟨S1x1x1536, .f32⟩
  | 41 => ⟨S2x4096x1536, .f32⟩
  | 42 => ⟨S2x4096x1536, .f32⟩
  | 43 => ⟨S2x4096x1536, .f32⟩
  | 44 => ⟨S1x1x1536, .f32⟩
  | 45 => ⟨S2x4096x1536, .f32⟩
  | 46 => ⟨S2x4096x1536, .f32⟩
  | 47 => ⟨S2x4096x1536, .f32⟩
  | 48 => ⟨S2x4096x1536, .f32⟩
  | 49 => ⟨S_, .f32⟩
  | 50 => ⟨S2x4096x1536, .f32⟩
  | 51 => ⟨S2x4096x1536, .f32⟩
  | 52 => ⟨S_, .f32⟩
  | 53 => ⟨S2x4096x1536, .f32⟩
  | 54 => ⟨S2x4096x1536, .f32⟩
  | 55 => ⟨S2x4096x1536, .f32⟩
  | 56 => ⟨S2x4096x1024, .f32⟩
  | 57 => ⟨S2x4096x256, .f32⟩
  | 58 => ⟨S2x4096x256, .f32⟩
  | 59 => ⟨S2x4096x16x64, .f32⟩
  | 60 => ⟨S2x4096x2x128, .f32⟩
  | 61 => ⟨S2x4096x2x128, .f32⟩
  | 62 => ⟨S1x1x16, .f32⟩
  | 63 => ⟨S2x4096x16, .f32⟩
  | 64 => ⟨S2x4096x16, .f32⟩
  | 65 => ⟨S_, .f32⟩
  | 66 => ⟨S2x4096x16, .f32⟩
  | 67 => ⟨S2x4096x16, .f32⟩
  | 68 => ⟨S2x4096x16, .f32⟩
  | 69 => ⟨S2x4096x16, .f32⟩
  | 70 => ⟨S2x4096x16, .i1⟩
  | 71 => ⟨S2x4096x16, .f32⟩
  | 72 => ⟨S2x4096x16, .f32⟩
  | 73 => ⟨S2x4096x16, .f32⟩
  | 74 => ⟨S2x4096x16, .f32⟩
  | 75 => ⟨S2x4096x16, .f32⟩
  | 76 => ⟨S2x4096x16, .f32⟩
  | 77 => ⟨S2x4096x16, .f32⟩
  | 78 => ⟨S2x4096x16, .f32⟩
  | 79 => ⟨S16, .f32⟩
  | 80 => ⟨S16, .f32⟩
  | 81 => ⟨S2x4096x16x1, .f32⟩
  | 82 => ⟨S2x4096x16x64, .f32⟩
  | 83 => ⟨S2x4096x16x64, .f32⟩
  | 84 => ⟨S2x32x128x16x64, .f32⟩
  | 85 => ⟨S1x1x16, .f32⟩
  | 86 => ⟨S2x4096x16, .f32⟩
  | 87 => ⟨S2x4096x16, .f32⟩
  | 88 => ⟨S2x32x128x16, .f32⟩
  | 89 => ⟨S_, .f32⟩
  | 90 => ⟨S_, .f32⟩
  | 91 => ⟨S2x32x128x16, .f32⟩
  | 92 => ⟨S2x32x128x2x128, .f32⟩
  | 93 => ⟨S2x32x128x2x128, .f32⟩
  | 94 => ⟨S_, .i1⟩
  | 95 => ⟨S128x128, .i1⟩
  | 96 => ⟨S128x128, .i32⟩
  | 97 => ⟨S_, .i32⟩
  | 98 => ⟨S128x128, .i32⟩
  | 99 => ⟨S128x128, .i32⟩
  | 100 => ⟨S128x128, .i32⟩
  | 101 => ⟨S128x128, .i1⟩
  | 102 => ⟨S_, .i1⟩
  | 103 => ⟨S128x128, .i1⟩
  | 104 => ⟨S128x128, .i1⟩
  | 105 => ⟨S2x32x128x1x16, .f32⟩
  | 106 => ⟨S2x32x1x128x16, .f32⟩
  | 107 => ⟨S2x32x128x128x16, .f32⟩
  | 108 => ⟨S2x32x128x128x16, .f32⟩
  | 109 => ⟨S2x32x128x128x16, .f32⟩
  | 110 => ⟨S1x1x128x128x1, .i1⟩
  | 111 => ⟨S_, .f32⟩
  | 112 => ⟨S_, .f32⟩
  | 113 => ⟨S2x32x128x128x16, .i1⟩
  | 114 => ⟨S2x32x128x128x16, .f32⟩
  | 115 => ⟨S2x32x128x128x16, .f32⟩
  | 116 => ⟨S2x32x128x128x16, .f32⟩
  | 117 => ⟨S2x32x2x128x128, .f32⟩
  | 118 => ⟨S2x32x128x128x2, .f32⟩
  | 119 => ⟨S2x32x128x128x2x8, .f32⟩
  | 120 => ⟨S2x32x128x128x16, .f32⟩
  | 121 => ⟨S2x32x128x128x16, .f32⟩
  | 122 => ⟨S2x32x16x64x128, .f32⟩
  | 123 => ⟨S2x32x128x16x64, .f32⟩
  | 124 => ⟨S2x32x128x2x8x128, .f32⟩
  | 125 => ⟨S2x32x128x16x128, .f32⟩
  | 126 => ⟨S2x32x128x2x8x128, .f32⟩
  | 127 => ⟨S2x32x128x16x128, .f32⟩
  | _ => ⟨S8192x2560, .f32⟩

abbrev hbmTy0_1 (i : Nat) : BufTy := match i % 128 with
  | 0 => ⟨S2x32x1x16, .f32⟩
  | 1 => ⟨S2x32x128x16, .f32⟩
  | 2 => ⟨S2x32x128x16, .f32⟩
  | 3 => ⟨S2x32x128x16, .f32⟩
  | 4 => ⟨S2x32x128x16x1, .f32⟩
  | 5 => ⟨S2x32x128x16x64, .f32⟩
  | 6 => ⟨S2x32x128x16x64, .f32⟩
  | 7 => ⟨S2x32x16x64x128, .f32⟩
  | 8 => ⟨S2x32x1x16, .f32⟩
  | 9 => ⟨S2x32x16, .f32⟩
  | 10 => ⟨S2x32x16, .f32⟩
  | 11 => ⟨S_, .f32⟩
  | 12 => ⟨S2x16x64x128, .f32⟩
  | 13 => ⟨S32x2x16x64x128, .f32⟩
  | 14 => ⟨S32x2x16, .f32⟩
  | 15 => ⟨S_, .f32⟩
  | 16 => ⟨S32x2x16x64x128, .f32⟩
  | 17 => ⟨S_, .i32⟩
  | 18 => ⟨S32x2x16x64x128, .f32⟩
  | 19 => ⟨S32x2x16, .f32⟩
  | 20 => ⟨S_, .i32⟩
  | 21 => ⟨S2x16x64x128, .f32⟩
  | 22 => ⟨S32x2x16x64x128, .f32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S1x2x16x64x128, .f32⟩
  | 30 => ⟨S2x16x64x128, .f32⟩
  | 31 => ⟨S_, .i32⟩
  | 32 => ⟨S_, .i32⟩
  | 33 => ⟨S1x2x16, .f32⟩
  | 34 => ⟨S2x16, .f32⟩
  | 35 => ⟨S2x16x1x1, .f32⟩
  | 36 => ⟨S2x16x64x128, .f32⟩
  | 37 => ⟨S2x16x64x128, .f32⟩
  | 38 => ⟨S2x16x64x128, .f32⟩
  | 39 => ⟨S1x2x16x64x128, .f32⟩
  | 40 => ⟨S_, .i32⟩
  | 41 => ⟨S_, .i32⟩
  | 42 => ⟨S_, .i32⟩
  | 43 => ⟨S_, .i32⟩
  | 44 => ⟨S32x2x16x64x128, .f32⟩
  | 45 => ⟨S_, .i32⟩
  | 46 => ⟨S_, .i32⟩
  | 47 => ⟨S2x32x16x64x128, .f32⟩
  | 48 => ⟨S2x32x16x64x128, .f32⟩
  | 49 => ⟨S2x32x128x16x64, .f32⟩
  | 50 => ⟨S2x32x128x16, .f32⟩
  | 51 => ⟨S2x32x128x16x1, .f32⟩
  | 52 => ⟨S2x32x128x16x64, .f32⟩
  | 53 => ⟨S2x32x128x16x64, .f32⟩
  | 54 => ⟨S2x32x128x16x64, .f32⟩
  | 55 => ⟨S2x4096x16x64, .f32⟩
  | 56 => ⟨S16x1, .f32⟩
  | 57 => ⟨S1x1x16x1, .f32⟩
  | 58 => ⟨S2x4096x16x64, .f32⟩
  | 59 => ⟨S2x4096x16x64, .f32⟩
  | 60 => ⟨S2x4096x16x64, .f32⟩
  | 61 => ⟨S2x4096x1024, .f32⟩
  | 62 => ⟨S2x4096x1024, .f32⟩
  | 63 => ⟨S2x4096x1024, .f32⟩
  | 64 => ⟨S_, .f32⟩
  | 65 => ⟨S2x4096x1024, .f32⟩
  | 66 => ⟨S2x4096x1024, .f32⟩
  | 67 => ⟨S_, .f32⟩
  | 68 => ⟨S2x4096x1024, .f32⟩
  | 69 => ⟨S2x4096x1024, .f32⟩
  | 70 => ⟨S2x4096x1024, .f32⟩
  | 71 => ⟨S2x4096x1024, .f32⟩
  | 72 => ⟨S2x4096x1024, .f32⟩
  | 73 => ⟨S_, .f32⟩
  | 74 => ⟨S2x4096, .f32⟩
  | 75 => ⟨S2x4096x1, .f32⟩
  | 76 => ⟨S_, .f32⟩
  | 77 => ⟨S2x4096x1, .f32⟩
  | 78 => ⟨S2x4096x1, .f32⟩
  | 79 => ⟨S_, .f32⟩
  | 80 => ⟨S2x4096x1, .f32⟩
  | 81 => ⟨S2x4096x1, .f32⟩
  | 82 => ⟨S2x4096x1, .f32⟩
  | 83 => ⟨S2x4096x1024, .f32⟩
  | 84 => ⟨S2x4096x1024, .f32⟩
  | 85 => ⟨S1x1x1024, .f32⟩
  | 86 => ⟨S2x4096x1024, .f32⟩
  | 87 => ⟨S2x4096x1024, .f32⟩
  | 88 => ⟨S8192x1024, .f32⟩
  | 89 => ⟨S8192x1024, .bf16⟩
  | _ => ⟨S8192x2560, .f32⟩

abbrev hbmTy (i : Nat) : BufTy := match i / 128 with
  | 0 => hbmTy0_0 i
  | 1 => hbmTy0_1 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call3_call0_cst : Ref sig .tc := ⟨.hbm, 89, rfl⟩
abbrev main_call3_call0_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_0 : Ref sig .tc := ⟨.hbm, 94, rfl⟩
abbrev main_v61 : Ref sig .tc := ⟨.hbm, 95, rfl⟩
abbrev main_call4_v0 : Ref sig .tc := ⟨.hbm, 96, rfl⟩
abbrev main_call4_c : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_c_0 : Ref sig .tc := ⟨.hbm, 102, rfl⟩
abbrev main_call4_v5 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_1 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_2 : Ref sig .tc := ⟨.hbm, 143, rfl⟩
abbrev main_v96 : Ref sig .tc := ⟨.hbm, 144, rfl⟩
abbrev main_c_3 : Ref sig .tc := ⟨.hbm, 145, rfl⟩
abbrev main_v97_0 : Ref sig .tc := ⟨.hbm, 146, rfl⟩
abbrev main_v97_1 : Ref sig .tc := ⟨.hbm, 147, rfl⟩
abbrev main_v97_2 : Ref sig .tc := ⟨.hbm, 148, rfl⟩
abbrev main_v97_3 : Ref sig .tc := ⟨.hbm, 149, rfl⟩
abbrev main_v97_4 : Ref sig .tc := ⟨.hbm, 150, rfl⟩
abbrev main_while0c_c_11 : Ref sig .tc := ⟨.hbm, 151, rfl⟩
abbrev main_while0c_v130 : Ref sig .tc := ⟨.hbm, 152, rfl⟩
abbrev main_while0b_call6_c : Ref sig .tc := ⟨.hbm, 153, rfl⟩
abbrev main_while0b_call6_c_0 : Ref sig .tc := ⟨.hbm, 154, rfl⟩
abbrev main_while0b_call6_c_1 : Ref sig .tc := ⟨.hbm, 155, rfl⟩
abbrev main_while0b_call6_c_2 : Ref sig .tc := ⟨.hbm, 156, rfl⟩
abbrev main_while0b_call6_v0 : Ref sig .tc := ⟨.hbm, 157, rfl⟩
abbrev main_while0b_v130 : Ref sig .tc := ⟨.hbm, 158, rfl⟩
abbrev main_while0b_call7_c : Ref sig .tc := ⟨.hbm, 159, rfl⟩
abbrev main_while0b_call7_c_0 : Ref sig .tc := ⟨.hbm, 160, rfl⟩
abbrev main_while0b_call7_v0 : Ref sig .tc := ⟨.hbm, 161, rfl⟩
abbrev main_while0b_v131 : Ref sig .tc := ⟨.hbm, 162, rfl⟩
abbrev main_while0b_v132 : Ref sig .tc := ⟨.hbm, 163, rfl⟩
abbrev main_while0b_v133 : Ref sig .tc := ⟨.hbm, 164, rfl⟩
abbrev main_while0b_v134 : Ref sig .tc := ⟨.hbm, 165, rfl⟩
abbrev main_while0b_v135 : Ref sig .tc := ⟨.hbm, 166, rfl⟩
abbrev main_while0b_call8_v0 : Ref sig .tc := ⟨.hbm, 167, rfl⟩
abbrev main_while0b_call8_c : Ref sig .tc := ⟨.hbm, 168, rfl⟩
abbrev main_while0b_call8_c_0 : Ref sig .tc := ⟨.hbm, 169, rfl⟩
abbrev main_while0b_call8_c_1 : Ref sig .tc := ⟨.hbm, 170, rfl⟩
abbrev main_while0b_call8_c_2 : Ref sig .tc := ⟨.hbm, 171, rfl⟩
abbrev main_while0b_v136 : Ref sig .tc := ⟨.hbm, 172, rfl⟩
abbrev main_while0b_c_11 : Ref sig .tc := ⟨.hbm, 173, rfl⟩
abbrev main_while0b_v137 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_call9_v0 : Ref sig .tc := ⟨.hbm, 190, rfl⟩
abbrev main_call9_v1 : Ref sig .tc := ⟨.hbm, 191, rfl⟩
abbrev main_call9_cst : Ref sig .tc := ⟨.hbm, 192, rfl⟩
abbrev main_call9_v2 : Ref sig .tc := ⟨.hbm, 193, rfl⟩
abbrev main_call9_v3 : Ref sig .tc := ⟨.hbm, 194, rfl⟩
abbrev main_call9_cst_0 : Ref sig .tc := ⟨.hbm, 195, rfl⟩
abbrev main_call9_v4 : Ref sig .tc := ⟨.hbm, 196, rfl⟩
abbrev main_call9_v5 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_cst_4 : Ref sig .tc := ⟨.hbm, 201, rfl⟩
abbrev main_v116 : Ref sig .tc := ⟨.hbm, 202, rfl⟩
abbrev main_v117 : Ref sig .tc := ⟨.hbm, 203, rfl⟩
abbrev main_cst_5 : Ref sig .tc := ⟨.hbm, 204, rfl⟩
abbrev main_v118 : Ref sig .tc := ⟨.hbm, 205, rfl⟩
abbrev main_v119 : Ref sig .tc := ⟨.hbm, 206, rfl⟩
abbrev main_cst_6 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩

abbrev nD : Nat := 1
abbrev τ : Topo := Topo.v7x

variable {F : FTy → Type} [FloatOps F]

abbrev main_while0_count : Scf.Loop 32 := ⟨0#32, 32#32, 1#32⟩
-- ==== ZaKernel.lean ====
abbrev S8192x2048 : Shape := ⟨2, ![8192, 2048]⟩
abbrev S2048x6752 : Shape := ⟨2, ![2048, 6752]⟩
abbrev S2048x2560 : Shape := ⟨2, ![2048, 2560]⟩
abbrev S8192x2560 : Shape := ⟨2, ![8192, 2560]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x6752, .f32⟩
  | .hbm, ⟨2, _⟩ => ⟨S2048x2560, .f32⟩
  | .hbm, ⟨3, _⟩ => ⟨S2048x2560, .bf16⟩
  | .hbm, ⟨4, _⟩ => ⟨S8192x2048, .bf16⟩
  | .hbm, ⟨5, _⟩ => ⟨S8192x2560, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZaReferenceIdeal.lean ====
abbrev S8192x2048 : Shape := ⟨2, ![8192, 2048]⟩
abbrev S2048x6752 : Shape := ⟨2, ![2048, 6752]⟩
abbrev S8192x6752 : Shape := ⟨2, ![8192, 6752]⟩
abbrev S8192x1024 : Shape := ⟨2, ![8192, 1024]⟩
abbrev S8192x1536 : Shape := ⟨2, ![8192, 1536]⟩
abbrev S8192x16 : Shape := ⟨2, ![8192, 16]⟩
abbrev S8192x64 : Shape := ⟨2, ![8192, 64]⟩
abbrev S8192x2560 : Shape := ⟨2, ![8192, 2560]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6752, .f32⟩
  | .hbm, ⟨2, _⟩ => ⟨S8192x6752, .f32⟩
  | .hbm, ⟨3, _⟩ => ⟨S8192x1024, .f32⟩
  | .hbm, ⟨4, _⟩ => ⟨S8192x1536, .f32⟩
  | .hbm, ⟨5, _⟩ => ⟨S8192x16, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x64, .f32⟩
  | .hbm, ⟨11, _⟩ => ⟨S8192x16, .f32⟩
  | .hbm, ⟨12, _⟩ => ⟨S8192x2560, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== QkviKernel.lean ====
abbrev S8192x2048 : Shape := ⟨2, ![8192, 2048]⟩
abbrev S2048x6752 : Shape := ⟨2, ![2048, 6752]⟩
abbrev S2048x4096 : Shape := ⟨2, ![2048, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x6752, .f32⟩
  | .hbm, ⟨2, _⟩ => ⟨S2048x4096, .f32⟩
  | .hbm, ⟨3, _⟩ => ⟨S2048x4096, .bf16⟩
  | .hbm, ⟨4, _⟩ => ⟨S8192x2048, .bf16⟩
  | .hbm, ⟨5, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkviReferenceIdeal.lean ====
abbrev S8192x2048 : Shape := ⟨2, ![8192, 2048]⟩
abbrev S2048x6752 : Shape := ⟨2, ![2048, 6752]⟩
abbrev S8192x6752 : Shape := ⟨2, ![8192, 6752]⟩
abbrev S8192x1024 : Shape := ⟨2, ![8192, 1024]⟩
abbrev S8192x1536 : Shape := ⟨2, ![8192, 1536]⟩
abbrev S8192x16 : Shape := ⟨2, ![8192, 16]⟩
abbrev S8192x64 : Shape := ⟨2, ![8192, 64]⟩
abbrev S8192x4096 : Shape := ⟨2, ![8192, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6752, .f32⟩
  | .hbm, ⟨2, _⟩ => ⟨S8192x6752, .f32⟩
  | .hbm, ⟨3, _⟩ => ⟨S8192x1024, .f32⟩
  | .hbm, ⟨4, _⟩ => ⟨S8192x1536, .f32⟩
  | .hbm, ⟨5, _⟩ => ⟨S8192x16, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x64, .f32⟩
  | .hbm, ⟨11, _⟩ => ⟨S8192x16, .f32⟩
  | .hbm, ⟨12, _⟩ => ⟨S8192x4096, .f32⟩
  | .hbm, ⟨13, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== SmKernel.lean ====
abbrev S8192x2048 : Shape := ⟨2, ![8192, 2048]⟩
abbrev S2048x6752 : Shape := ⟨2, ![2048, 6752]⟩
abbrev S2048x16 : Shape := ⟨2, ![2048, 16]⟩
abbrev S2048x80 : Shape := ⟨2, ![2048, 80]⟩
abbrev S_ : Shape := ⟨0, ![]⟩
abbrev S2048x32 : Shape := ⟨2, ![2048, 32]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 10
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x6752, .f32⟩
  | .hbm, ⟨2, _⟩ => ⟨S2048x16, .f32⟩
  | .hbm, ⟨3, _⟩ => ⟨S2048x80, .f32⟩
  | .hbm, ⟨4, _⟩ => ⟨S_, .f32⟩
  | .hbm, ⟨5, _⟩ => ⟨S2048x32, .f32⟩
  | .hbm, ⟨6, _⟩ => ⟨S2048x128, .f32⟩
  | .hbm, ⟨7, _⟩ => ⟨S2048x128, .bf16⟩
  | .hbm, ⟨8, _⟩ => ⟨S8192x2048, .bf16⟩
  | .hbm, ⟨9, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SmReferenceIdeal.lean ====
abbrev S8192x2048 : Shape := ⟨2, ![8192, 2048]⟩
abbrev S2048x6752 : Shape := ⟨2, ![2048, 6752]⟩
abbrev S8192x6752 : Shape := ⟨2, ![8192, 6752]⟩
abbrev S8192x1024 : Shape := ⟨2, ![8192, 1024]⟩
abbrev S8192x1536 : Shape := ⟨2, ![8192, 1536]⟩
abbrev S8192x16 : Shape := ⟨2, ![8192, 16]⟩
abbrev S8192x64 : Shape := ⟨2, ![8192, 64]⟩
abbrev S_ : Shape := ⟨0, ![]⟩
abbrev S8192x32 : Shape := ⟨2, ![8192, 32]⟩
abbrev S8192x128 : Shape := ⟨2, ![8192, 128]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6752, .f32⟩
  | .hbm, ⟨2, _⟩ => ⟨S8192x6752, .f32⟩
  | .hbm, ⟨3, _⟩ => ⟨S8192x1024, .f32⟩
  | .hbm, ⟨4, _⟩ => ⟨S8192x1536, .f32⟩
  | .hbm, ⟨5, _⟩ => ⟨S8192x16, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x64, .f32⟩
  | .hbm, ⟨11, _⟩ => ⟨S8192x16, .f32⟩
  | .hbm, ⟨12, _⟩ => ⟨S_, .f32⟩
  | .hbm, ⟨13, _⟩ => ⟨S8192x32, .f32⟩
  | .hbm, ⟨14, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== PleKernel.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩

abbrev nBuf : Space → Nat
  | .hbm => 14
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S2048, .f32⟩
  | .hbm, ⟨7, _⟩ => ⟨S8192x2048, .bf16⟩
  | .hbm, ⟨8, _⟩ => ⟨S2048x2048, .bf16⟩
  | .hbm, ⟨9, _⟩ => ⟨S256x2048, .bf16⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x256, .f32⟩
  | .local _ .vmem, ⟨7, _⟩ => ⟨S256x256, .f32⟩
  | .local _ .vmem, ⟨8, _⟩ => ⟨S2048x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PleReferenceIdeal.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== OutKernel.lean ====
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S2048x32 : Shape := ⟨2, ![2048, 32]⟩
abbrev S32 : Shape := ⟨1, ![32]⟩
abbrev S1x2048 : Shape := ⟨2, ![1, 2048]⟩
abbrev S32x2048 : Shape := ⟨2, ![32, 2048]⟩
abbrev S32x1 : Shape := ⟨2, ![32, 1]⟩
abbrev S2x8192 : Shape := ⟨2, ![2, 8192]⟩
abbrev S256x1024 : Shape := ⟨2, ![256, 1024]⟩
abbrev S1024x2048 : Shape := ⟨2, ![1024, 2048]⟩
abbrev S256x2048 : Shape := ⟨2, ![256, 2048]⟩
abbrev S2x256 : Shape := ⟨2, ![2, 256]⟩
abbrev S256 : Shape := ⟨1, ![256]⟩
abbrev S256x1 : Shape := ⟨2, ![256, 1]⟩
abbrev S32x256 : Shape := ⟨2, ![32, 256]⟩
abbrev S1x256 : Shape := ⟨2, ![1, 256]⟩

abbrev nBuf : Space → Nat
  | .hbm => 17
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S2048x32, .f32⟩
  | .hbm, ⟨7, _⟩ => ⟨S32, .f32⟩
  | .hbm, ⟨8, _⟩ => ⟨S2048x2048, .bf16⟩
  | .hbm, ⟨9, _⟩ => ⟨S1x2048, .f32⟩
  | .hbm, ⟨10, _⟩ => ⟨S1x2048, .f32⟩
  | .hbm, ⟨11, _⟩ => ⟨S32x2048, .f32⟩
  | .hbm, ⟨12, _⟩ => ⟨S32x1, .f32⟩
  | .hbm, ⟨13, _⟩ => ⟨S8192x2048, .f32⟩
  | .hbm, ⟨14, _⟩ => ⟨S8192x2048, .bf16⟩
  | .hbm, ⟨15, _⟩ => ⟨S2x8192, .i32⟩
  | .hbm, ⟨16, _⟩ => ⟨S2x8192, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S32x2048, .f32⟩
  | .local _ .vmem, ⟨11, _⟩ => ⟨S32x1, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S2x256, .i32⟩
  | .local _ .vmem, ⟨17, _⟩ => ⟨S2x256, .i32⟩
  | .local _ .vmem, ⟨18, _⟩ => ⟨S2x256, .f32⟩
  | .local _ .vmem, ⟨19, _⟩ => ⟨S2x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x256 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutReferenceIdeal.lean ====
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S2048x32, .f32⟩
  | .hbm, ⟨7, _⟩ => ⟨S32, .f32⟩
  | .hbm, ⟨8, _⟩ => ⟨S8192x1024, .f32⟩
  | .hbm, ⟨9, _⟩ => ⟨S8192x1024, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Proof.SsdSpec.lean ====
/-
  The chunked state-space recurrence as plain mathematics over the extended reals, in natural-number coordinates:
  the short convolution, the step sizes, the decays inside a chunk, the two parts of the output of a chunk,
  the state carried from one chunk to the next, and the gated root-mean-square norm.
  Neither program occurs here; each is compared with these functions in a module of its own.
-/
module

public import Idealize.ShloMosaic.Lib.Pointwise
public import Idealize.ShloMosaic.PureOps.Ideal

@[expose] public section

noncomputable section

open Idealize.ShloMosaic

namespace Ssd

/-- The eight argument arrays, read at natural numbers. -/
structure Inp where
  /-- gate channels 0 … 1023, convolution channels 1024 … 2559 -/
  za : ℕ → ℕ → EReal
  /-- raw step sizes, one column per head -/
  sm : ℕ → ℕ → EReal
  /-- convolution taps -/
  cw : ℕ → ℕ → EReal
  /-- convolution bias -/
  cb : ℕ → EReal
  /-- step-size bias -/
  dtb : ℕ → EReal
  /-- logarithm of the decay rate -/
  al : ℕ → EReal
  /-- skip weight -/
  dk : ℕ → EReal
  /-- norm weight -/
  nw : ℕ → EReal

/-- The logistic function as both programs write it. -/
def sg (x : EReal) : EReal := Ideal.div 1 (1 + Ideal.exp (-x))

/-- The softplus function as both programs write it. -/
def sp (x : EReal) : EReal := max x 0 + Ideal.log (1 + Ideal.exp (-(max x (-x))))

/-- The logarithm of a masked-out decay. -/
def low : EReal := Ideal.ofBits .f32 0xFF800000#32

variable (I : Inp)

/-- Channel `j` of row `i` of sequence `b`, after padding three zero rows in front. -/
def up (b i j : ℕ) : EReal := if i < 3 then 0 else I.za (b * 4096 + (i - 3)) (1024 + j)

/-- The convolution at row `i` of sequence `b`. -/
def cv (b i j : ℕ) : EReal :=
  up I b i j * I.cw 0 j + up I b (i + 1) j * I.cw 1 j + up I b (i + 2) j * I.cw 2 j + up I b (i + 3) j * I.cw 3 j + I.cb j

/-- The convolution after its activation. -/
def xb (b i j : ℕ) : EReal := cv I b i j * sg (cv I b i j)

/-- Step size of head `h` at row `i` of sequence `b`. -/
def dt (b i h : ℕ) : EReal := sp (I.sm (b * 4096 + i) h + I.dtb h)

/-- Cumulated log decay of head `h` inside chunk `c`, up to and including its row `r`. -/
def acs (b c r h : ℕ) : EReal := ∑ k : Fin 128, if k.val ≤ r then dt I b (c * 128 + k.val) h * -(Ideal.exp (I.al h)) else 0

/-- Input of head `h`, lane `p`, times its step size. -/
def xdt (b i h p : ℕ) : EReal := xb I b i (h * 64 + p) * dt I b i h

/-- Inner product of output row `l` with input row `s` of chunk `c`, for group `g`. -/
def cbm (b c g l s : ℕ) : EReal :=
  ∑ n : Fin 128, xb I b (c * 128 + l) (1280 + (g * 128 + n.val)) * xb I b (c * 128 + s) (1024 + (g * 128 + n.val))

/-- Decay from row `s` to row `l` of a chunk. -/
def dec (b c l s h : ℕ) : EReal := Ideal.exp (if s ≤ l then acs I b c l h - acs I b c s h else low)

/-- The part of the output of a chunk that comes from the chunk itself. -/
def yd (b c l h p : ℕ) : EReal :=
  ∑ s : Fin 128, cbm I b c (h / 8) l s.val * dec I b c l s.val h * xdt I b (c * 128 + s.val) h p

/-- What a chunk adds to the state. -/
def add (b c h p n : ℕ) : EReal :=
  ∑ l : Fin 128, xb I b (c * 128 + l.val) (1024 + (h / 8 * 128 + n))
    * (xdt I b (c * 128 + l.val) h p * Ideal.exp (acs I b c 127 h - acs I b c l.val h))

/-- The state before chunk `c`. -/
def st (b : ℕ) : ℕ → ℕ → ℕ → ℕ → EReal
  | 0, _, _, _ => 0
  | c + 1, h, p, n => st b c h p n * Ideal.exp (acs I b c 127 h) + add I b c h p n

/-- The part of the output of a chunk that comes from the state before it. -/
def yo (b c l h p : ℕ) : EReal :=
  (∑ n : Fin 128, xb I b (c * 128 + l) (1280 + (h / 8 * 128 + n.val)) * st I b c h p n.val) * Ideal.exp (acs I b c l h)

/-- The output of the recurrence at column `j` of row `l` of chunk `c`, with the skip term, gated. -/
def yg (b c l j : ℕ) : EReal :=
  (yd I b c l (j / 64) (j % 64) + yo I b c l (j / 64) (j % 64) + xb I b (c * 128 + l) j * I.dk (j / 64))
    * (I.za (b * 4096 + (c * 128 + l)) j * sg (I.za (b * 4096 + (c * 128 + l)) j))

/-- The norm's scale of a row. -/
def rs (b c l : ℕ) : EReal :=
  Ideal.rsqrt (Ideal.div (∑ j : Fin 1024, yg I b c l j.val * yg I b c l j.val) (Ideal.ofBits .f32 0x44800000#32) + Ideal.ofBits .f32 0x3727C5AC#32)

/-- The layer's result. -/
def out (b c l j : ℕ) : EReal := yg I b c l j * rs I b c l * I.nw j

end Ssd
-- ==== Proof.SsdPure.lean ====
/-
  The kernel's arithmetic, one payload at a time, read at an index: what the convolution, the step sizes, the
  cumulated decays, the expansion by the one-hot matrix, a head's product, the two state products and the gated norm
  compute from blocks that hold the mathematics of SsdSpec.
-/
module

public import proofs.«01_k».proof.Proof.Gen.KernelIdeal.Skeleton
public import proofs.«01_k».proof.Proof.SsdSpec
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.KernelIdeal.Ssd

open Cert.KernelIdeal Cert.KernelIdeal.Gen _root_.Ssd

variable (I : Inp) (b c : ℕ)

/-- The programs' `0 - x` is `-x`. -/
theorem zsub (x : EReal) : (0 : EReal) - x = -x := by rw [sub_eq_add_neg, zero_add]

/-- The activated convolution from its bias, taps and four shifted blocks. -/
theorem conv_at {CB W0 W1 W2 W3 : FVec Ideal S1x1536 .f32} {C0 C1 C2 C3 : FVec Ideal S128x1536 .f32}
    (hCB : ∀ j : Fin 1536, CB (ix2 0 j) = I.cb j)
    (h0 : ∀ j : Fin 1536, W0 (ix2 0 j) = I.cw 0 j) (h1 : ∀ j : Fin 1536, W1 (ix2 0 j) = I.cw 1 j)
    (h2 : ∀ j : Fin 1536, W2 (ix2 0 j) = I.cw 2 j) (h3 : ∀ j : Fin 1536, W3 (ix2 0 j) = I.cw 3 j)
    (g0 : ∀ (r : Fin 128) (j : Fin 1536), C0 (ix2 r j) = up I b (c * 128 + r) j)
    (g1 : ∀ (r : Fin 128) (j : Fin 1536), C1 (ix2 r j) = up I b (c * 128 + r + 1) j)
    (g2 : ∀ (r : Fin 128) (j : Fin 1536), C2 (ix2 r j) = up I b (c * 128 + r + 2) j)
    (g3 : ∀ (r : Fin 128) (j : Fin 1536), C3 (ix2 r j) = up I b (c * 128 + r + 3) j) (r : Fin 128) (j : Fin 1536) :
    k0_pay5 (F := Ideal) CB W0 C0 W1 C1 W2 C2 W3 C3 (ix2 r j) = cv I b (c * 128 + r) j := by
  pointwise [k0_pay5, hCB, h0, h1, h2, h3, g0, g1, g2, g3]
  unfold cv
  ac_nf

/-- The activation, as the kernel writes it. -/
theorem act_at {A : FVec Ideal S128x1536 .f32} (hA : ∀ (r : Fin 128) (j : Fin 1536), A (ix2 r j) = cv I b (c * 128 + r) j)
    (r : Fin 128) (j : Fin 1536) : k0_pay7 (F := Ideal) A (ix2 r j) = xb I b (c * 128 + r) j := by
  pointwise [k0_pay7, hA]
  rw [zsub]
  rfl

/-- The head inputs. -/
theorem xs_at {A : FVec Ideal S128x1536 .f32} (hA : ∀ (r : Fin 128) (j : Fin 1536), A (ix2 r j) = cv I b (c * 128 + r) j)
    (r : Fin 128) (j : Fin 1024) : k0_pay8 (F := Ideal) A (ix2 r j) = xb I b (c * 128 + r) j := by
  pointwise [k0_pay8]
  exact act_at I b c hA r _

/-- The input rows of the products. -/
theorem bm_at {A : FVec Ideal S128x1536 .f32} (hA : ∀ (r : Fin 128) (j : Fin 1536), A (ix2 r j) = cv I b (c * 128 + r) j)
    (r : Fin 128) (j : Fin 256) : k0_pay9 (F := Ideal) A (ix2 r j) = xb I b (c * 128 + r) (1024 + j) := by
  pointwise [k0_pay9]
  exact act_at I b c hA r _

/-- The output rows of the products. -/
theorem cm_at {A : FVec Ideal S128x1536 .f32} (hA : ∀ (r : Fin 128) (j : Fin 1536), A (ix2 r j) = cv I b (c * 128 + r) j)
    (r : Fin 128) (j : Fin 256) : k0_pay10 (F := Ideal) A (ix2 r j) = xb I b (c * 128 + r) (1280 + j) := by
  pointwise [k0_pay10]
  exact act_at I b c hA r _

/-- The step sizes. -/
theorem dt_at {X : FVec Ideal S128x128 .f32} {D : FVec Ideal S1x128 .f32}
    (hX : ∀ r k : Fin 128, X (ix2 r k) = I.sm (b * 4096 + (c * 128 + r)) k)
    (hD : ∀ k : Fin 128, k.val < 16 → D (ix2 0 k) = I.dtb k) (r k : Fin 128) (hk : k.val < 16) :
    k0_pay11 (F := Ideal) X D (ix2 r k) = dt I b (c * 128 + r) k := by
  pointwise [k0_pay11]
  rw [hX, hD k hk, zsub]
  rfl

/-- The causal mask chooses by the order of the rows. -/
theorem mask_at (r s : Fin 128) (x y : EReal) : Scalar.select (k0_pay12 (ix2 r s)) x y = if s.val ≤ r.val then x else y := by
  pointwise [k0_pay12]
  have hr := r.isLt
  have hs := s.isLt
  by_cases h : s.val ≤ r.val
  · rw [if_pos h, (WordCmp.cmpi_sle_ofNat_eq_one_iff (w := 32) (by omega) (by omega)).2 h]
    rfl
  · rw [if_neg h, (WordCmp.cmpi_sle_ofNat_eq_zero_iff (w := 32) (by omega) (by omega)).2 (by omega)]
    rfl

/-- The cumulated decays: the product with the triangle of ones is the sum over the rows up to this one. -/
theorem acs_at {X : FVec Ideal S128x128 .f32} {D A : FVec Ideal S1x128 .f32}
    (hX : ∀ r k : Fin 128, X (ix2 r k) = I.sm (b * 4096 + (c * 128 + r)) k)
    (hD : ∀ k : Fin 128, k.val < 16 → D (ix2 0 k) = I.dtb k)
    (hA : ∀ k : Fin 128, k.val < 16 → A (ix2 0 k) = -(Ideal.exp (I.al k))) (r k : Fin 128) (hk : k.val < 16) :
    k0_pay13 (F := Ideal) X D A (ix2 r k) = acs I b c r k := by
  pointwise [k0_pay13]
  refine Finset.sum_congr rfl fun s _ => ?_
  rw [mask_at, dt_at I b c hX hD s k hk, hA k hk]

/-- Their transpose. -/
theorem acsT_at {X : FVec Ideal S128x128 .f32} {D A : FVec Ideal S1x128 .f32}
    (hX : ∀ r k : Fin 128, X (ix2 r k) = I.sm (b * 4096 + (c * 128 + r)) k)
    (hD : ∀ k : Fin 128, k.val < 16 → D (ix2 0 k) = I.dtb k)
    (hA : ∀ k : Fin 128, k.val < 16 → A (ix2 0 k) = -(Ideal.exp (I.al k))) (k r : Fin 128) (hk : k.val < 16) :
    k0_pay14 (F := Ideal) X D A (ix2 k r) = acs I b c r k := by
  pointwise [k0_pay14]
  exact acs_at I b c hX hD hA r k hk

/-- A sum against a column of the one-hot matrix is the one summand of that column's head. -/
theorem hot_sum {E : FVec Ideal S128x1024 .f32} (hE : ∀ (k : Fin 128) (j : Fin 1024), E (ix2 k j) = if j.val / 64 = k.val then 1 else 0)
    (f : Fin 128 → EReal) (j : Fin 1024) : ∑ k : Fin 128, f k * E (ix2 k j) = f ⟨j.val / 64, by omega⟩ := by
  rw [Finset.sum_eq_single (⟨j.val / 64, by omega⟩ : Fin 128)]
  · rw [hE, if_pos rfl, mul_one]
  · intro k _ hk
    rw [hE, if_neg (fun h => hk (Fin.ext h.symm)), mul_zero]
  · intro h
    exact absurd (Finset.mem_univ _) h

section expand

variable {T S : FVec Ideal S128x128 .f32} {E : FVec Ideal S128x1024 .f32}
  (hE : ∀ (k : Fin 128) (j : Fin 1024), E (ix2 k j) = if j.val / 64 = k.val then 1 else 0)
  (hT : ∀ r k : Fin 128, k.val < 16 → T (ix2 r k) = dt I b (c * 128 + r) k)
  (hS : ∀ r k : Fin 128, k.val < 16 → S (ix2 r k) = acs I b c r k)

include hE hS

/-- The expanded decay from the chunk's start. -/
theorem expa_at (r : Fin 128) (j : Fin 1024) :
    k0_pay16 (F := Ideal) T S E (ix2 r j) = Ideal.exp (acs I b c r (j.val / 64)) := by
  pointwise [k0_pay16, k0_pay15]
  rw [hot_sum hE (fun k => Ideal.exp (S (ix2 r k)))]
  rw [hS r ⟨j.val / 64, by omega⟩ (by show j.val / 64 < 16; omega)]

/-- The expanded decay to the chunk's end. -/
theorem dte_at (r : Fin 128) (j : Fin 1024) :
    k0_pay17 (F := Ideal) T S E (ix2 r j) = Ideal.exp (acs I b c 127 (j.val / 64) - acs I b c r (j.val / 64)) := by
  pointwise [k0_pay17, k0_pay15]
  refine (Finset.sum_congr rfl fun x _ => ?_).trans ((hot_sum hE (fun k => Ideal.exp (S (ix2 127 k) - S (ix2 r k))) j).trans ?_)
  · rw [dif_neg (by omega), dif_neg (by omega), show (⟨256 + r.val - 128 - 128, by omega⟩ : Fin 128) = r from Fin.ext (by show 256 + r.val - 128 - 128 = r.val; omega)]
  rw [hS r ⟨j.val / 64, by omega⟩ (by show j.val / 64 < 16; omega), hS 127 ⟨j.val / 64, by omega⟩ (by show j.val / 64 < 16; omega)]
  rfl

include hT
omit hS

/-- The head inputs times the expanded step sizes. -/
theorem xdt_at {X : FVec Ideal S128x1024 .f32} (hX : ∀ (r : Fin 128) (j : Fin 1024), X (ix2 r j) = xb I b (c * 128 + r) j)
    (r : Fin 128) (j : Fin 1024) :
    k0_pay18 (F := Ideal) X T S E (ix2 r j) = xdt I b (c * 128 + r) (j.val / 64) (j.val % 64) := by
  pointwise [k0_pay18, k0_pay15]
  rw [hot_sum hE (fun k => T (ix2 r k)), hX]
  rw [hT r ⟨j.val / 64, by omega⟩ (by show j.val / 64 < 16; omega)]
  unfold xdt
  rw [Nat.div_add_mod']

end expand

section products

variable {X : FVec Ideal S128x1024 .f32} {B C : FVec Ideal S128x256 .f32}
  (hB : ∀ (r : Fin 128) (j : Fin 256), B (ix2 r j) = xb I b (c * 128 + r) (1024 + j))
  (hC : ∀ (r : Fin 128) (j : Fin 256), C (ix2 r j) = xb I b (c * 128 + r) (1280 + j))

include hB hC

/-- The first group's products of output and input rows. -/
theorem cb0_at (l s : Fin 128) : k0_pay21 (F := Ideal) B C (ix2 l s) = cbm I b c 0 l s := by
  pointwise [k0_pay21, k0_pay20, k0_pay19, hB, hC]
  unfold cbm
  exact Finset.sum_congr rfl fun n _ => by rw [Nat.zero_mul, Nat.zero_add]

/-- The second group's. -/
theorem cb1_at (l s : Fin 128) : k0_pay38 (F := Ideal) B C (ix2 l s) = cbm I b c 1 l s := by
  pointwise [k0_pay38, k0_pay37, k0_pay36, hB, hC]
  rfl

end products

section heads

variable {G S U : FVec Ideal S128x128 .f32} {X : FVec Ideal S128x1024 .f32} {g : ℕ}
  (hG : ∀ l s : Fin 128, G (ix2 l s) = cbm I b c g l s)
  (hS : ∀ r k : Fin 128, k.val < 16 → S (ix2 r k) = acs I b c r k)
  (hU : ∀ k r : Fin 128, k.val < 16 → U (ix2 k r) = acs I b c r k)
  (hX : ∀ (r : Fin 128) (j : Fin 1024), X (ix2 r j) = xdt I b (c * 128 + r) (j.val / 64) (j.val % 64))

include hG hS hU hX

/-- One head's sum over the rows of the chunk, as every head's payload reads. -/
theorem head_sum (k : Fin 128) (hk : k.val < 16) (hg : k.val / 8 = g) (l : Fin 128) (p : Fin 64) (q : Fin 1024) (hq : q.val = k.val * 64 + p.val) :
    ∑ s : Fin 128, G (ix2 l s) * Ideal.exp (Scalar.select (k0_pay12 (ix2 l s)) (S (ix2 l k) - U (ix2 k s)) (Ideal.ofBits .f32 4286578688#32)) * X (ix2 s q)
      = yd I b c l k.val p.val := by
  unfold yd
  refine Finset.sum_congr rfl fun s _ => ?_
  rw [mask_at, hG, hS l k hk, hU k s hk, hX, hg, show q.val / 64 = k.val by omega, show q.val % 64 = p.val by omega]
  rfl

end heads

section state

variable {XD DE EX : FVec Ideal S128x1024 .f32} {B C : FVec Ideal S128x256 .f32} {H : FVec Ideal S128x512 .f32}
  (hXD : ∀ (r : Fin 128) (j : Fin 1024), XD (ix2 r j) = xdt I b (c * 128 + r) (j.val / 64) (j.val % 64))
  (hDE : ∀ (r : Fin 128) (j : Fin 1024), DE (ix2 r j) = Ideal.exp (acs I b c 127 (j.val / 64) - acs I b c r (j.val / 64)))
  (hEX : ∀ (r : Fin 128) (j : Fin 1024), EX (ix2 r j) = Ideal.exp (acs I b c r (j.val / 64)))
  (hB : ∀ (r : Fin 128) (j : Fin 256), B (ix2 r j) = xb I b (c * 128 + r) (1024 + j))
  (hC : ∀ (r : Fin 128) (j : Fin 256), C (ix2 r j) = xb I b (c * 128 + r) (1280 + j))

include hXD hDE hEX hB in
/-- The first eight heads' state after the chunk. -/
theorem st0_at (hH : ∀ (n : Fin 128) (j : Fin 512), H (ix2 n j) = st I b c (j.val / 64) (j.val % 64) n) (n : Fin 128) (j : Fin 512) :
    k0_pay35 (F := Ideal) EX DE XD (k0_pay20 B) H (ix2 n j) = st I b (c + 1) (j.val / 64) (j.val % 64) n := by
  have hj := j.isLt
  pointwise [k0_pay35, k0_pay20, hH, hXD, hDE, hEX, hB]
  refine Ideal.add_congr rfl (Finset.sum_congr rfl fun l _ => ?_)
  rw [show j.val / 64 / 8 = 0 by omega]
  simp only [Nat.zero_mul, Nat.zero_add]
  done

include hXD hDE hEX hB in
/-- The last eight heads' state after the chunk. -/
theorem st1_at (hH : ∀ (n : Fin 128) (j : Fin 512), H (ix2 n j) = st I b c ((512 + j.val) / 64) ((512 + j.val) % 64) n) (n : Fin 128) (j : Fin 512) :
    k0_pay54 (F := Ideal) EX (k0_pay37 B) H (k0_pay52 XD) (k0_pay53 DE) (ix2 n j) = st I b (c + 1) ((512 + j.val) / 64) ((512 + j.val) % 64) n := by
  have hj := j.isLt
  pointwise [k0_pay54, k0_pay37, k0_pay52, k0_pay53, hH, hXD, hDE, hEX, hB]
  refine Ideal.add_congr rfl (Finset.sum_congr rfl fun l _ => ?_)
  rw [show (512 + j.val) / 64 / 8 = 1 by omega]
  done

include hEX hC in
/-- The first eight heads' output, both parts. -/
theorem y0_at {Y : FVec Ideal S128x512 .f32}
    (hH : ∀ (n : Fin 128) (j : Fin 512), H (ix2 n j) = st I b c (j.val / 64) (j.val % 64) n)
    (hY : ∀ (l : Fin 128) (j : Fin 512), Y (ix2 l j) = yd I b c l (j.val / 64) (j.val % 64)) (l : Fin 128) (j : Fin 512) :
    k0_pay34 (F := Ideal) EX (k0_pay19 C) H Y (ix2 l j) = yd I b c l (j.val / 64) (j.val % 64) + yo I b c l (j.val / 64) (j.val % 64) := by
  have hj := j.isLt
  pointwise [k0_pay34, k0_pay19, hH, hY, hEX, hC]
  unfold yo
  rw [show j.val / 64 / 8 = 0 by omega]
  simp only [Nat.zero_mul, Nat.zero_add]
  done

include hEX hC in
/-- The last eight heads' output, both parts. -/
theorem y1_at {Y : FVec Ideal S128x512 .f32}
    (hH : ∀ (n : Fin 128) (j : Fin 512), H (ix2 n j) = st I b c ((512 + j.val) / 64) ((512 + j.val) % 64) n)
    (hY : ∀ (l : Fin 128) (j : Fin 512), Y (ix2 l j) = yd I b c l ((512 + j.val) / 64) ((512 + j.val) % 64)) (l : Fin 128) (j : Fin 512) :
    k0_pay51 (F := Ideal) EX (k0_pay36 C) H Y (ix2 l j) = yd I b c l ((512 + j.val) / 64) ((512 + j.val) % 64) + yo I b c l ((512 + j.val) / 64) ((512 + j.val) % 64) := by
  have hj := j.isLt
  pointwise [k0_pay51, k0_pay36, hH, hY, hEX, hC]
  unfold yo
  rw [show (512 + j.val) / 64 / 8 = 1 by omega]
  done

end state

/-- The gated norm. -/
theorem out_at {X Y Z : FVec Ideal S128x1024 .f32} {D N : FVec Ideal S1x1024 .f32}
    (hX : ∀ (r : Fin 128) (j : Fin 1024), X (ix2 r j) = xb I b (c * 128 + r) j)
    (hY : ∀ (l : Fin 128) (j : Fin 1024), Y (ix2 l j) = yd I b c l (j.val / 64) (j.val % 64) + yo I b c l (j.val / 64) (j.val % 64))
    (hD : ∀ j : Fin 1024, D (ix2 0 j) = I.dk (j.val / 64))
    (hZ : ∀ (r : Fin 128) (j : Fin 1024), Z (ix2 r j) = I.za (b * 4096 + (c * 128 + r)) j)
    (hN : ∀ j : Fin 1024, N (ix2 0 j) = I.nw j) (l : Fin 128) (j : Fin 1024) :
    k0_pay1 (F := Ideal) (k0_pay55 X Y D Z N) (ix2 l j) = out I b c l j := by
  pointwise [k0_pay1, k0_pay55, hX, hY, hD, hZ, hN]
  simp only [zsub]
  rfl

end Cert.KernelIdeal.Ssd
-- ==== Proof.Tiles2.lean ====
/-
  Reading back a list of stores into a matrix at one entry: the last store's rectangle holds the entry, or it does not.
-/
module

public import Idealize.ShloMosaic.Lib.Pipeline.ValueKit
public import Idealize.ShloMosaic.Lib.Pipeline.ReadBack
public import Idealize.ShloMosaic.Lib.Pointwise
public import Idealize.ShloMosaic.Lib.WritesUnit

@[expose] public section

open Idealize.ShloMosaic

namespace Tiles2

variable {Val : EltTy → Type} {e : EltTy} [∀ e, Nonempty (Val e)]

/-- Where the last store's rectangle holds the entry, its payload is read. -/
theorem hit {A B o0 o1 n0 n1 : ℕ} (inb : ∀ a, (![o0, o1] : Fin 2 → ℕ) a + (![n0, n1] : Fin 2 → ℕ) a ≤ (⟨2, ![A, B]⟩ : Shape).size a)
    (w : (⟨2, ![n0, n1]⟩ : Shape).Idx → Val e) (L : List (View.Piece Val (⟨2, ![A, B]⟩ : Shape) e)) (i : Fin A) (j : Fin B) (x0 : Fin n0) (x1 : Fin n1)
    (h0 : i.val = o0 + x0.val) (h1 : j.val = o1 + x1.val) :
    View.canon ((⟨Rect.unit (s := (⟨2, ![A, B]⟩ : Shape)) ![o0, o1] ![n0, n1] inb, w⟩ : View.Piece Val (⟨2, ![A, B]⟩ : Shape) e) :: L) (ix2 i j) = w (ix2 x0 x1) := by
  have he : (ix2 i j : (⟨2, ![A, B]⟩ : Shape).Idx) = (Rect.unit (s := (⟨2, ![A, B]⟩ : Shape)) ![o0, o1] ![n0, n1] inb).emb (ix2 x0 x1) := by
    funext a
    refine Fin.ext ?_
    rw [Rect.emb_apply]
    match a with
    | ⟨0, _⟩ => show i.val = o0 + 1 * x0.val; omega
    | ⟨1, _⟩ => show j.val = o1 + 1 * x1.val; omega
  rw [he]
  exact View.canon_cons_emb _ _ _ _

/-- Off the last store's columns, the earlier stores are read. -/
theorem miss_col {A B o0 o1 n0 n1 : ℕ} (inb : ∀ a, (![o0, o1] : Fin 2 → ℕ) a + (![n0, n1] : Fin 2 → ℕ) a ≤ (⟨2, ![A, B]⟩ : Shape).size a)
    (w : (⟨2, ![n0, n1]⟩ : Shape).Idx → Val e) (L : List (View.Piece Val (⟨2, ![A, B]⟩ : Shape) e)) (i : Fin A) (j : Fin B)
    (h : j.val < o1 ∨ o1 + n1 ≤ j.val) :
    View.canon ((⟨Rect.unit (s := (⟨2, ![A, B]⟩ : Shape)) ![o0, o1] ![n0, n1] inb, w⟩ : View.Piece Val (⟨2, ![A, B]⟩ : Shape) e) :: L) (ix2 i j) = View.canon L (ix2 i j) := by
  refine View.canon_cons_of_not_mem _ _ fun hm => ?_
  obtain ⟨x, hx⟩ := (Rect.unit (s := (⟨2, ![A, B]⟩ : Shape)) ![o0, o1] ![n0, n1] inb).exists_idx_of_mem hm
  have h1 := congrArg (fun y : (⟨2, ![A, B]⟩ : Shape).Idx => (y 1).val) hx
  have h2 : o1 + 1 * (x 1).val = j.val := by
    rw [← show ((Rect.unit (s := (⟨2, ![A, B]⟩ : Shape)) ![o0, o1] ![n0, n1] inb).emb x 1).val = j.val from h1, Rect.emb_apply]
    rfl
  have h3 : (x 1).val < n1 := (x 1).isLt
  omega

/-- Off the last store's rows, the earlier stores are read. -/
theorem miss_row {A B o0 o1 n0 n1 : ℕ} (inb : ∀ a, (![o0, o1] : Fin 2 → ℕ) a + (![n0, n1] : Fin 2 → ℕ) a ≤ (⟨2, ![A, B]⟩ : Shape).size a)
    (w : (⟨2, ![n0, n1]⟩ : Shape).Idx → Val e) (L : List (View.Piece Val (⟨2, ![A, B]⟩ : Shape) e)) (i : Fin A) (j : Fin B)
    (h : i.val < o0 ∨ o0 + n0 ≤ i.val) :
    View.canon ((⟨Rect.unit (s := (⟨2, ![A, B]⟩ : Shape)) ![o0, o1] ![n0, n1] inb, w⟩ : View.Piece Val (⟨2, ![A, B]⟩ : Shape) e) :: L) (ix2 i j) = View.canon L (ix2 i j) := by
  refine View.canon_cons_of_not_mem _ _ fun hm => ?_
  obtain ⟨x, hx⟩ := (Rect.unit (s := (⟨2, ![A, B]⟩ : Shape)) ![o0, o1] ![n0, n1] inb).exists_idx_of_mem hm
  have h1 := congrArg (fun y : (⟨2, ![A, B]⟩ : Shape).Idx => (y 0).val) hx
  have h2 : o0 + 1 * (x 0).val = i.val := by
    rw [← show ((Rect.unit (s := (⟨2, ![A, B]⟩ : Shape)) ![o0, o1] ![n0, n1] inb).emb x 0).val = i.val from h1, Rect.emb_apply]
    rfl
  have h3 : (x 0).val < n0 := (x 0).isLt
  omega

/-- A load of a rectangle after the stores, at one entry of the rectangle, reads the stores there. -/
theorem read {sig : RefSig} {κ : Kind} {sp : Space} {A B o0 o1 n0 n1 : ℕ} (v : View sig κ sp (⟨2, ![A, B]⟩ : Shape) e)
    (inb : ∀ a, (![o0, o1] : Fin 2 → ℕ) a + (![n0, n1] : Fin 2 → ℕ) a ≤ (⟨2, ![A, B]⟩ : Shape).size a)
    (L : List (View.Piece Val (⟨2, ![A, B]⟩ : Shape) e)) (x0 : Fin n0) (x1 : Fin n1) (i : Fin A) (j : Fin B)
    (h0 : i.val = o0 + x0.val) (h1 : j.val = o1 + x1.val) :
    v.readCov L (Rect.unit (s := (⟨2, ![A, B]⟩ : Shape)) ![o0, o1] ![n0, n1] inb).toLoadRect (ix2 x0 x1) = View.canon L (ix2 i j) := by
  rw [View.readCov_eq_canon']
  refine congrArg (View.canon L) (funext fun a => Fin.ext ?_)
  match a with
  | ⟨0, _⟩ => show o0 + 1 * x0.val = i.val; omega
  | ⟨1, _⟩ => show o1 + 1 * x1.val = j.val; omega

/-- A load of a rectangle of a matrix, at one entry of the rectangle. -/
theorem load {A B o0 o1 n0 n1 : ℕ} (inb : ∀ a, (![o0, o1] : Fin 2 → ℕ) a + (![n0, n1] : Fin 2 → ℕ) a ≤ (⟨2, ![A, B]⟩ : Shape).size a)
    (X : (⟨2, ![A, B]⟩ : Shape).Idx → Val e) (x0 : Fin n0) (x1 : Fin n1) (i : Fin A) (j : Fin B)
    (h0 : i.val = o0 + x0.val) (h1 : j.val = o1 + x1.val) :
    View.ld X (Rect.unit (s := (⟨2, ![A, B]⟩ : Shape)) ![o0, o1] ![n0, n1] inb) (ix2 x0 x1) = X (ix2 i j) := by
  refine congrArg X (funext fun a => Fin.ext ?_)
  match a with
  | ⟨0, _⟩ => show o0 + 1 * x0.val = i.val; omega
  | ⟨1, _⟩ => show o1 + 1 * x1.val = j.val; omega

/-- A store of whole rows over contents, read at one of its rows. -/
theorem over_hit {sig : RefSig} {κ : Kind} {sp : Space} {A B o0 n0 : ℕ} (v : View sig κ sp (⟨2, ![A, B]⟩ : Shape) e) (f : v.ty.Contents Val)
    (inb : ∀ a, (![o0, 0] : Fin 2 → ℕ) a + (![n0, B] : Fin 2 → ℕ) a ≤ (⟨2, ![A, B]⟩ : Shape).size a)
    (w : (⟨2, ![n0, B]⟩ : Shape).Idx → Val e) (L : List (View.Piece Val (⟨2, ![A, B]⟩ : Shape) e)) (i : Fin A) (j : Fin B) (x0 : Fin n0) (h0 : i.val = o0 + x0.val) :
    v.read Val (v.writes Val f ((⟨Rect.unit (s := (⟨2, ![A, B]⟩ : Shape)) ![o0, 0] ![n0, B] inb, w⟩ : View.Piece Val (⟨2, ![A, B]⟩ : Shape) e) :: L)) (ix2 i j)
      = w (ix2 x0 j) :=
  View.read_writes_cons_rows_of_mem v f inb w L (ix2 i j) (ix2 x0 j) rfl h0 rfl

/-- Off its rows, what was there. -/
theorem over_miss {sig : RefSig} {κ : Kind} {sp : Space} {A B o0 n0 : ℕ} (v : View sig κ sp (⟨2, ![A, B]⟩ : Shape) e) (f : v.ty.Contents Val)
    (inb : ∀ a, (![o0, 0] : Fin 2 → ℕ) a + (![n0, B] : Fin 2 → ℕ) a ≤ (⟨2, ![A, B]⟩ : Shape).size a)
    (w : (⟨2, ![n0, B]⟩ : Shape).Idx → Val e) (L : List (View.Piece Val (⟨2, ![A, B]⟩ : Shape) e)) (i : Fin A) (j : Fin B) (h : i.val < o0 ∨ o0 + n0 ≤ i.val) :
    v.read Val (v.writes Val f ((⟨Rect.unit (s := (⟨2, ![A, B]⟩ : Shape)) ![o0, 0] ![n0, B] inb, w⟩ : View.Piece Val (⟨2, ![A, B]⟩ : Shape) e) :: L)) (ix2 i j)
      = v.read Val (v.writes Val f L) (ix2 i j) :=
  View.read_writes_cons_rows_of_not_mem v f inb w L (ix2 i j) rfl rfl h

end Tiles2
-- ==== Proof.SsdHeads.lean ====
/-
  The output buffer of one chunk: sixteen heads' products stored side by side, then, eight heads at a time, the
  contribution of the state added on top of what was stored; read back at an entry.
-/
module

public import proofs.«01_k».proof.Proof.SsdPure
public import proofs.«01_k».proof.Proof.Tiles2

@[expose] public section

set_option maxRecDepth 16384

noncomputable section

open Idealize.ShloMosaic Idealize.ShloMosaic.TcCoe Idealize.SL.Sem

namespace Cert.KernelIdeal.Ssd

open Cert.KernelIdeal Cert.KernelIdeal.Gen _root_.Ssd

/-- A stored piece of the output buffer. -/
abbrev YPiece : Type := View.Piece (Elt Ideal) S128x1024 .f32

/-- Reading a list of column blocks stored from right to left: the last store holds the entry, or an earlier one does. -/
theorem ladder {A B o1 n1 : ℕ} (inb : ∀ a, (![0, o1] : Fin 2 → ℕ) a + (![A, n1] : Fin 2 → ℕ) a ≤ (⟨2, ![A, B]⟩ : Shape).size a)
    (w : (⟨2, ![A, n1]⟩ : Shape).Idx → Elt Ideal .f32) (L : List (View.Piece (Elt Ideal) (⟨2, ![A, B]⟩ : Shape) .f32)) (i : Fin A) (j : Fin B)
    (v : EReal) (hj : j.val < o1 + n1) (hw : ∀ x : Fin n1, j.val = o1 + x.val → w (ix2 i x) = v) (hL : j.val < o1 → View.canon L (ix2 i j) = v) :
    View.canon ((⟨Rect.unit (s := (⟨2, ![A, B]⟩ : Shape)) ![0, o1] ![A, n1] inb, w⟩ : View.Piece (Elt Ideal) (⟨2, ![A, B]⟩ : Shape) .f32) :: L) (ix2 i j) = v := by
  by_cases h : j.val < o1
  · exact (Tiles2.miss_col inb w L i j (.inl h)).trans (hL h)
  · exact (Tiles2.hit inb w L i j i ⟨j.val - o1, by omega⟩ (Nat.zero_add _).symm (by show j.val = o1 + (j.val - o1); omega)).trans
      (hw _ (by show j.val = o1 + (j.val - o1); omega))

/-- The first eight heads' stores, the latest first. -/
def hp0 (S U G T : FVec Ideal S128x128 .f32) (X V E : FVec Ideal S128x1024 .f32) (B C : FVec Ideal S128x256 .f32) : List YPiece :=
  [⟨Rect.unit (s := S128x1024) ![0, 448] ![128, 64] inb_S128x1024_S128x64_0_448, k0_pay33 (F := Ideal) X (k0_pay32 k0_pay12 S U G)⟩,
   ⟨Rect.unit (s := S128x1024) ![0, 384] ![128, 64] inb_S128x1024_S128x64_0_384, k0_pay31 (F := Ideal) k0_pay12 S U X G⟩,
   ⟨Rect.unit (s := S128x1024) ![0, 320] ![128, 64] inb_S128x1024_S128x64_0_320, k0_pay30 (F := Ideal) k0_pay12 S U X G⟩,
   ⟨Rect.unit (s := S128x1024) ![0, 256] ![128, 64] inb_S128x1024_S128x64_0_256, k0_pay29 (F := Ideal) (k0_pay27 k0_pay12 S U G) (k0_pay28 X) (constant S128x64 .f32 0x00000000#32)⟩,
   ⟨Rect.unit (s := S128x1024) ![0, 192] ![128, 64] inb_S128x1024_S128x64_0_192, k0_pay26 (F := Ideal) k0_pay12 S U X G⟩,
   ⟨Rect.unit (s := S128x1024) ![0, 128] ![128, 64] inb_S128x1024_S128x64_0_128, k0_pay25 (F := Ideal) k0_pay12 S U X G⟩,
   ⟨Rect.unit (s := S128x1024) ![0, 64] ![128, 64] inb_S128x1024_S128x64_0_64, k0_pay24 (F := Ideal) (k0_pay23 V B C T k0_pay12 S U E)⟩,
   ⟨Rect.unit (s := S128x1024) ![0, 0] ![128, 64] inb_S128x1024_S128x64_0_0, k0_pay22 (F := Ideal) V B C T k0_pay12 S U E⟩]

/-- The last eight heads' stores, on top of `L`. -/
def hp1 (S U G : FVec Ideal S128x128 .f32) (X : FVec Ideal S128x1024 .f32) (L : List YPiece) : List YPiece :=
  ⟨Rect.unit (s := S128x1024) ![0, 960] ![128, 64] inb_S128x1024_S128x64_0_960, k0_pay50 (F := Ideal) k0_pay12 S U X G⟩ ::
  ⟨Rect.unit (s := S128x1024) ![0, 896] ![128, 64] inb_S128x1024_S128x64_0_896, k0_pay49 (F := Ideal) k0_pay12 X G (k0_pay47 S) (k0_pay48 U)⟩ ::
  ⟨Rect.unit (s := S128x1024) ![0, 832] ![128, 64] inb_S128x1024_S128x64_0_832, k0_pay46 (F := Ideal) k0_pay12 S U X G⟩ ::
  ⟨Rect.unit (s := S128x1024) ![0, 768] ![128, 64] inb_S128x1024_S128x64_0_768, k0_pay45 (F := Ideal) k0_pay12 S U X G⟩ ::
  ⟨Rect.unit (s := S128x1024) ![0, 704] ![128, 64] inb_S128x1024_S128x64_0_704, k0_pay44 (F := Ideal) k0_pay12 X G (k0_pay43 S U)⟩ ::
  ⟨Rect.unit (s := S128x1024) ![0, 640] ![128, 64] inb_S128x1024_S128x64_0_640, k0_pay42 (F := Ideal) k0_pay12 S U X G⟩ ::
  ⟨Rect.unit (s := S128x1024) ![0, 576] ![128, 64] inb_S128x1024_S128x64_0_576, k0_pay41 (F := Ideal) k0_pay12 S U X G⟩ ::
  ⟨Rect.unit (s := S128x1024) ![0, 512] ![128, 64] inb_S128x1024_S128x64_0_512, k0_pay40 (F := Ideal) X G (k0_pay39 k0_pay12 S U)⟩ :: L

/-- The first half with the state's contribution added. -/
def yp0 (v : View sig .tc .vmem S128x1024 .f32) (EX : FVec Ideal S128x1024 .f32) (C : FVec Ideal S128x256 .f32) (H0 : FVec Ideal S128x512 .f32) (L : List YPiece) : List YPiece :=
  ⟨Rect.unit (s := S128x1024) ![0, 0] ![128, 512] inb_S128x1024_S128x512_0_0,
    k0_pay34 (F := Ideal) EX (k0_pay19 C) H0 (v.readCov L (Rect.unit (s := S128x1024) ![0, 0] ![128, 512] inb_S128x1024_S128x512_0_0).toLoadRect)⟩ :: L

/-- The second half with the state's contribution added. -/
def yp1 (v : View sig .tc .vmem S128x1024 .f32) (EX : FVec Ideal S128x1024 .f32) (C : FVec Ideal S128x256 .f32) (H1 : FVec Ideal S128x512 .f32) (L : List YPiece) : List YPiece :=
  ⟨Rect.unit (s := S128x1024) ![0, 512] ![128, 512] inb_S128x1024_S128x512_0_512,
    k0_pay51 (F := Ideal) EX (k0_pay36 C) H1 (v.readCov L (Rect.unit (s := S128x1024) ![0, 512] ![128, 512] inb_S128x1024_S128x512_0_512).toLoadRect)⟩ :: L

variable (I : Inp) (b c : ℕ)

section

variable {S U G G1 T : FVec Ideal S128x128 .f32} {X V E EX : FVec Ideal S128x1024 .f32} {B C : FVec Ideal S128x256 .f32}
  (hS : ∀ r k : Fin 128, k.val < 16 → S (ix2 r k) = acs I b c r k)
  (hU : ∀ k r : Fin 128, k.val < 16 → U (ix2 k r) = acs I b c r k)
  (hX : ∀ (r : Fin 128) (j : Fin 1024), X (ix2 r j) = xdt I b (c * 128 + r) (j.val / 64) (j.val % 64))

/-- Head `h`'s column block sits at column `64 * h`. -/
theorem yd_col {l h p j : ℕ} (hj : j = h * 64 + p) (hp : p < 64) : yd I b c l h p = yd I b c l (j / 64) (j % 64) := by
  rw [show j / 64 = h by omega, show j % 64 = p by omega]

include hS hU hX in
/-- The first eight heads' stores at an entry of the first half. -/
theorem hp0_at (hG : ∀ l s : Fin 128, G (ix2 l s) = cbm I b c 0 l s)
    (e0 : k0_pay21 (F := Ideal) B C = G) (e1 : k0_pay18 (F := Ideal) V T S E = X) (l : Fin 128) (j : Fin 1024) (hj : j.val < 512) :
    View.canon (hp0 S U G T X V E B C) (ix2 l j) = yd I b c l (j.val / 64) (j.val % 64) := by
  subst e0 e1
  unfold hp0
  refine ladder _ _ _ l j _ hj (fun x hx => ?_) (fun _ => ?_)
  · refine Eq.trans ?_ (yd_col I b c (h := 7) (p := x.val) (by omega) x.isLt)
    pointwise [k0_pay33, k0_pay32]
    exact head_sum I b c hG hS hU hX 7 (by decide) rfl l x _ (by show 448 + x.val = 7 * 64 + x.val; omega)
  refine ladder _ _ _ l j _ (by assumption) (fun x hx => ?_) (fun _ => ?_)
  · refine Eq.trans ?_ (yd_col I b c (h := 6) (p := x.val) (by omega) x.isLt)
    pointwise [k0_pay31]
    exact head_sum I b c hG hS hU hX 6 (by decide) rfl l x _ (by show 384 + x.val = 6 * 64 + x.val; omega)
  refine ladder _ _ _ l j _ (by assumption) (fun x hx => ?_) (fun _ => ?_)
  · refine Eq.trans ?_ (yd_col I b c (h := 5) (p := x.val) (by omega) x.isLt)
    pointwise [k0_pay30]
    exact head_sum I b c hG hS hU hX 5 (by decide) rfl l x _ (by show 320 + x.val = 5 * 64 + x.val; omega)
  refine ladder _ _ _ l j _ (by assumption) (fun x hx => ?_) (fun _ => ?_)
  · refine Eq.trans ?_ (yd_col I b c (h := 4) (p := x.val) (by omega) x.isLt)
    pointwise [k0_pay29, k0_pay27, k0_pay28]
    exact head_sum I b c hG hS hU hX 4 (by decide) rfl l x _ (by show 256 + x.val = 4 * 64 + x.val; omega)
  refine ladder _ _ _ l j _ (by assumption) (fun x hx => ?_) (fun _ => ?_)
  · refine Eq.trans ?_ (yd_col I b c (h := 3) (p := x.val) (by omega) x.isLt)
    pointwise [k0_pay26]
    exact head_sum I b c hG hS hU hX 3 (by decide) rfl l x _ (by show 192 + x.val = 3 * 64 + x.val; omega)
  refine ladder _ _ _ l j _ (by assumption) (fun x hx => ?_) (fun _ => ?_)
  · refine Eq.trans ?_ (yd_col I b c (h := 2) (p := x.val) (by omega) x.isLt)
    pointwise [k0_pay25]
    exact head_sum I b c hG hS hU hX 2 (by decide) rfl l x _ (by show 128 + x.val = 2 * 64 + x.val; omega)
  refine ladder _ _ _ l j _ (by assumption) (fun x hx => ?_) (fun _ => ?_)
  · refine Eq.trans ?_ (yd_col I b c (h := 1) (p := x.val) (by omega) x.isLt)
    pointwise [k0_pay24, k0_pay23]
    exact head_sum I b c hG hS hU hX 1 (by decide) rfl l x _ (by show 64 + x.val = 1 * 64 + x.val; omega)
  refine ladder _ _ _ l j _ (by assumption) (fun x hx => ?_) (fun _ => ?_)
  · refine Eq.trans ?_ (yd_col I b c (h := 0) (p := x.val) (by omega) x.isLt)
    pointwise [k0_pay22]
    exact head_sum I b c hG hS hU hX 0 (by decide) rfl l x _ (by show x.val = 0 * 64 + x.val; omega)
  · omega

include hS hU hX in
/-- The last eight heads' stores at an entry of the second half. -/
theorem hp1_at (hG : ∀ l s : Fin 128, G (ix2 l s) = cbm I b c 1 l s) (L : List YPiece) (l : Fin 128) (j : Fin 1024) (hj : 512 ≤ j.val) :
    View.canon (hp1 S U G X L) (ix2 l j) = yd I b c l (j.val / 64) (j.val % 64) := by
  unfold hp1
  refine ladder _ _ _ l j _ j.isLt (fun x hx => ?_) (fun _ => ?_)
  · refine Eq.trans ?_ (yd_col I b c (h := 15) (p := x.val) (by omega) x.isLt)
    pointwise [k0_pay50]
    exact head_sum I b c hG hS hU hX 15 (by decide) rfl l x _ (by show 960 + x.val = 15 * 64 + x.val; omega)
  refine ladder _ _ _ l j _ (by assumption) (fun x hx => ?_) (fun _ => ?_)
  · refine Eq.trans ?_ (yd_col I b c (h := 14) (p := x.val) (by omega) x.isLt)
    pointwise [k0_pay49, k0_pay47, k0_pay48]
    exact head_sum I b c hG hS hU hX 14 (by decide) rfl l x _ (by show 896 + x.val = 14 * 64 + x.val; omega)
  refine ladder _ _ _ l j _ (by assumption) (fun x hx => ?_) (fun _ => ?_)
  · refine Eq.trans ?_ (yd_col I b c (h := 13) (p := x.val) (by omega) x.isLt)
    pointwise [k0_pay46]
    exact head_sum I b c hG hS hU hX 13 (by decide) rfl l x _ (by show 832 + x.val = 13 * 64 + x.val; omega)
  refine ladder _ _ _ l j _ (by assumption) (fun x hx => ?_) (fun _ => ?_)
  · refine Eq.trans ?_ (yd_col I b c (h := 12) (p := x.val) (by omega) x.isLt)
    pointwise [k0_pay45]
    exact head_sum I b c hG hS hU hX 12 (by decide) rfl l x _ (by show 768 + x.val = 12 * 64 + x.val; omega)
  refine ladder _ _ _ l j _ (by assumption) (fun x hx => ?_) (fun _ => ?_)
  · refine Eq.trans ?_ (yd_col I b c (h := 11) (p := x.val) (by omega) x.isLt)
    pointwise [k0_pay44, k0_pay43]
    exact head_sum I b c hG hS hU hX 11 (by decide) rfl l x _ (by show 704 + x.val = 11 * 64 + x.val; omega)
  refine ladder _ _ _ l j _ (by assumption) (fun x hx => ?_) (fun _ => ?_)
  · refine Eq.trans ?_ (yd_col I b c (h := 10) (p := x.val) (by omega) x.isLt)
    pointwise [k0_pay42]
    exact head_sum I b c hG hS hU hX 10 (by decide) rfl l x _ (by show 640 + x.val = 10 * 64 + x.val; omega)
  refine ladder _ _ _ l j _ (by assumption) (fun x hx => ?_) (fun _ => ?_)
  · refine Eq.trans ?_ (yd_col I b c (h := 9) (p := x.val) (by omega) x.isLt)
    pointwise [k0_pay41]
    exact head_sum I b c hG hS hU hX 9 (by decide) rfl l x _ (by show 576 + x.val = 9 * 64 + x.val; omega)
  refine ladder _ _ _ l j _ (by assumption) (fun x hx => ?_) (fun _ => ?_)
  · refine Eq.trans ?_ (yd_col I b c (h := 8) (p := x.val) (by omega) x.isLt)
    pointwise [k0_pay40, k0_pay39]
    exact head_sum I b c hG hS hU hX 8 (by decide) rfl l x _ (by show 512 + x.val = 8 * 64 + x.val; omega)
  · omega

/-- Off the second half, the last eight heads' stores are not read. -/
theorem hp1_miss (L : List YPiece) (l : Fin 128) (j : Fin 1024) (hj : j.val < 512) :
    View.canon (hp1 S U G X L) (ix2 l j) = View.canon L (ix2 l j) := by
  unfold hp1
  refine (Tiles2.miss_col _ _ _ l j (.inl (by omega))).trans ?_
  refine (Tiles2.miss_col _ _ _ l j (.inl (by omega))).trans ?_
  refine (Tiles2.miss_col _ _ _ l j (.inl (by omega))).trans ?_
  refine (Tiles2.miss_col _ _ _ l j (.inl (by omega))).trans ?_
  refine (Tiles2.miss_col _ _ _ l j (.inl (by omega))).trans ?_
  refine (Tiles2.miss_col _ _ _ l j (.inl (by omega))).trans ?_
  refine (Tiles2.miss_col _ _ _ l j (.inl (by omega))).trans ?_
  refine (Tiles2.miss_col _ _ _ l j (.inl (by omega))).trans ?_
  rfl

include hS hU hX in
/-- The output buffer after every store of the chunk, read as a whole. -/
theorem ybuf_at (v : View sig .tc .vmem S128x1024 .f32) {H0 H1 : FVec Ideal S128x512 .f32}
    (e0 : k0_pay18 (F := Ideal) V T S E = X)
    (hB : ∀ (r : Fin 128) (j : Fin 256), B (ix2 r j) = xb I b (c * 128 + r) (1024 + j))
    (hC : ∀ (r : Fin 128) (j : Fin 256), C (ix2 r j) = xb I b (c * 128 + r) (1280 + j))
    (hEX : ∀ (r : Fin 128) (j : Fin 1024), EX (ix2 r j) = Ideal.exp (acs I b c r (j.val / 64)))
    (h0 : ∀ (n : Fin 128) (j : Fin 512), H0 (ix2 n j) = st I b c (j.val / 64) (j.val % 64) n)
    (h1 : ∀ (n : Fin 128) (j : Fin 512), H1 (ix2 n j) = st I b c ((512 + j.val) / 64) ((512 + j.val) % 64) n) (l : Fin 128) (j : Fin 1024) :
    v.readCov (yp1 v EX C H1 (hp1 S U (k0_pay38 B C) X (yp0 v EX C H0 (hp0 S U (k0_pay21 B C) T X V E B C))))
        (Rect.unit (s := S128x1024) ![0, 0] ![128, 1024] inb_S128x1024_S128x1024_0_0).toLoadRect (ix2 l j)
      = yd I b c l (j.val / 64) (j.val % 64) + yo I b c l (j.val / 64) (j.val % 64) := by
  refine (Tiles2.read v _ _ l j l j (Nat.zero_add _).symm (Nat.zero_add _).symm).trans ?_
  refine ladder _ _ _ l j _ j.isLt (fun x hx => ?_) (fun hj => ?_)
  · rw [hx]
    refine y1_at I b c hEX hC h1 (fun l' x' => ?_) l x
    refine (Tiles2.read v _ _ l' x' l' ⟨512 + x'.val, by omega⟩ (Nat.zero_add _).symm rfl).trans ?_
    exact hp1_at I b c hS hU hX (cb1_at I b c hB hC) _ l' ⟨512 + x'.val, by omega⟩ (Nat.le_add_right _ _)
  · refine (hp1_miss _ l j hj).trans ?_
    refine ladder _ _ _ l j _ (by omega) (fun x hx => ?_) (fun hj' => absurd hj' (Nat.not_lt_zero _))
    rw [hx, Nat.zero_add]
    refine y0_at I b c hEX hC h0 (fun l' x' => ?_) l x
    refine (Tiles2.read v _ _ l' x' l' ⟨x'.val, by omega⟩ (Nat.zero_add _).symm (Nat.zero_add _).symm).trans ?_
    exact hp0_at I b c hS hU hX (cb0_at I b c hB hC) rfl e0 l' ⟨x'.val, by omega⟩ x'.isLt

end

end Cert.KernelIdeal.Ssd
-- ==== Proof.SsdRows.lean ====
/-
  One grid point of the kernel: from the blocks it loads, the history rows and the state the point before left, to the
  block it writes, the history rows and the state it leaves.
-/
module

public import proofs.«01_k».proof.Proof.Gen.KernelIdeal.Frame
public import proofs.«01_k».proof.Proof.SsdHeads

@[expose] public section

set_option maxRecDepth 16384

noncomputable section

open Idealize.ShloMosaic Idealize.ShloMosaic.TcCoe Idealize.SL.Sem
open Idealize.ShloMosaic.Pipeline (Dat)

namespace Cert.KernelIdeal.Ssd

open Cert.KernelIdeal Cert.KernelIdeal.Gen _root_.Ssd

variable (m : (ℓ : Loc nD τ sig) → Buf (Elt Ideal) ℓ)

/-- The blocks of point `t` hold chunk `c` of sequence `b`. -/
structure Blk (I : Inp) (d : Dev nD) (t : Fin cfg0.N) (b c : ℕ) : Prop where
  z : ∀ (r : Fin 128) (j : Fin 2560), (iblk m d 0 t : FVec Ideal S128x2560 .f32) (ix2 r j) = I.za (b * 4096 + (c * 128 + r)) j
  s : ∀ r k : Fin 128, (iblk m d 1 t : FVec Ideal S128x128 .f32) (ix2 r k) = I.sm (b * 4096 + (c * 128 + r)) k
  w : ∀ (k : Fin 4) (j : Fin 1536), (iblk m d 2 t : FVec Ideal S4x1536 .f32) (ix2 k j) = I.cw k j
  cb : ∀ j : Fin 1536, (iblk m d 3 t : FVec Ideal S1x1536 .f32) (ix2 0 j) = I.cb j
  db : ∀ k : Fin 128, k.val < 16 → (iblk m d 4 t : FVec Ideal S1x128 .f32) (ix2 0 k) = I.dtb k
  a : ∀ k : Fin 128, k.val < 16 → (iblk m d 5 t : FVec Ideal S1x128 .f32) (ix2 0 k) = -(Ideal.exp (I.al k))
  dk : ∀ j : Fin 1024, (iblk m d 6 t : FVec Ideal S1x1024 .f32) (ix2 0 j) = I.dk (j.val / 64)
  nw : ∀ j : Fin 1024, (iblk m d 7 t : FVec Ideal S1x1024 .f32) (ix2 0 j) = I.nw j
  e : ∀ (k : Fin 128) (j : Fin 1024), (iblk m d 8 t : FVec Ideal S128x1024 .f32) (ix2 k j) = (if j.val / 64 = k.val then 1 else 0 : EReal)

/-- The history rows hold the last rows before chunk `c`. -/
def Hist (I : Inp) (b c : ℕ) (H : FVec Ideal S136x1536 .f32) : Prop :=
  ∀ (k : Fin 136) (j : Fin 1536), 5 ≤ k.val → k.val < 8 → H (ix2 k j) = up I b (c * 128 + (k - 5)) j

/-- The state buffer holds the state before chunk `c`. -/
def Stt (I : Inp) (b c : ℕ) (H : FVec Ideal S128x1024 .f32) : Prop :=
  ∀ (n : Fin 128) (j : Fin 1024), H (ix2 n j) = st I b c (j.val / 64) (j.val % 64) n

variable {m} {I : Inp} {d : Dev nD} {t : Fin cfg0.N} {b c : ℕ}

/-- The convolution channels of the loaded rows. -/
theorem zrow (hb : Blk m I d t b c) (x : FVec Ideal S128x1536 .f32) (hx : ∀ (r : Fin 128) (j : Fin 1536), x (ix2 r j) = (iblk m d 0 t : FVec Ideal S128x2560 .f32) (ix2 r ⟨1024 + j.val, by omega⟩))
    (r : Fin 128) (j : Fin 1536) : k0_pay4 (F := Ideal) x (ix2 r j) = up I b (c * 128 + r + 3) j := by
  pointwise [k0_pay4]
  rw [hx, hb.z]
  unfold up
  rw [if_neg (by omega)]
  rfl

/-- A load of shifted rows from the history and the rows stored under it. -/
theorem rows_B (v : View sig .tc .vmem S136x1536 .f32) (f : v.ty.Contents (Elt Ideal)) {w : FVec Ideal S128x1536 .f32}
    (inb : ∀ a, (![8, 0] : Fin 2 → ℕ) a + (![128, 1536] : Fin 2 → ℕ) a ≤ S136x1536.size a)
    (hw : ∀ (r : Fin 128) (j : Fin 1536), w (ix2 r j) = up I b (c * 128 + r + 3) j)
    (hf : Hist I b c (v.read (Elt Ideal) f)) {o : ℕ} (ho : 5 ≤ o) (ho' : o ≤ 7)
    (inb' : ∀ a, (![o, 0] : Fin 2 → ℕ) a + (![128, 1536] : Fin 2 → ℕ) a ≤ S136x1536.size a) (r : Fin 128) (j : Fin 1536) :
    View.ld (v.read (Elt Ideal) (v.writes (Elt Ideal) f [⟨Rect.unit (s := S136x1536) ![8, 0] ![128, 1536] inb, w⟩]))
      (Rect.unit (s := S136x1536) ![o, 0] ![128, 1536] inb') (ix2 r j) = up I b (c * 128 + r + (o - 5)) j := by
  refine (Tiles2.load (Val := Elt Ideal) (e := .f32) _ _ r j (⟨o + r.val, by omega⟩ : Fin 136) j rfl (Nat.zero_add _).symm).trans ?_
  by_cases h : o + r.val < 8
  · refine (Tiles2.over_miss (Val := Elt Ideal) (e := .f32) v f inb w [] _ j (.inl h)).trans ?_
    refine (hf _ j (by show 5 ≤ o + r.val; omega) h).trans ?_
    rw [show c * 128 + (o + r.val - 5) = c * 128 + r.val + (o - 5) by omega]
  · refine (Tiles2.over_hit (Val := Elt Ideal) (e := .f32) v f inb w [] _ j (⟨o + r.val - 8, by omega⟩ : Fin 128) (by show o + r.val = 8 + (o + r.val - 8); omega)).trans ?_
    refine (hw _ j).trans ?_
    rw [show c * 128 + (o + r.val - 8) + 3 = c * 128 + r.val + (o - 5) by omega]

/-- The same at a sequence's first point, where the history was filled with zeros. -/
theorem rows_A (v : View sig .tc .vmem S136x1536 .f32) {w : FVec Ideal S128x1536 .f32}
    (inb : ∀ a, (![8, 0] : Fin 2 → ℕ) a + (![128, 1536] : Fin 2 → ℕ) a ≤ S136x1536.size a)
    (inb0 : ∀ a, (![0, 0] : Fin 2 → ℕ) a + (![8, 1536] : Fin 2 → ℕ) a ≤ S136x1536.size a)
    (hw : ∀ (r : Fin 128) (j : Fin 1536), w (ix2 r j) = up I b (0 * 128 + r + 3) j) {o : ℕ} (ho : 5 ≤ o) (ho' : o ≤ 7)
    (inb' : ∀ a, (![o, 0] : Fin 2 → ℕ) a + (![128, 1536] : Fin 2 → ℕ) a ≤ S136x1536.size a) (r : Fin 128) (j : Fin 1536) :
    v.readCov (Val := Elt Ideal) [⟨Rect.unit (s := S136x1536) ![8, 0] ![128, 1536] inb, w⟩, ⟨Rect.unit (s := S136x1536) ![0, 0] ![8, 1536] inb0, k0_pay2 (F := Ideal)⟩]
      (Rect.unit (s := S136x1536) ![o, 0] ![128, 1536] inb').toLoadRect (ix2 r j) = up I b (0 * 128 + r + (o - 5)) j := by
  refine (Tiles2.read (Val := Elt Ideal) (e := .f32) v _ _ r j (⟨o + r.val, by omega⟩ : Fin 136) j rfl (Nat.zero_add _).symm).trans ?_
  by_cases h : o + r.val < 8
  · refine (Tiles2.miss_row (Val := Elt Ideal) (e := .f32) inb w _ _ j (.inl h)).trans ?_
    refine (Tiles2.hit (Val := Elt Ideal) (e := .f32) inb0 _ _ _ j (⟨o + r.val, h⟩ : Fin 8) j (Nat.zero_add _).symm (Nat.zero_add _).symm).trans ?_
    pointwise [k0_pay2]
    unfold up
    rw [if_pos (by omega)]
  · refine (Tiles2.hit (Val := Elt Ideal) (e := .f32) inb w _ _ j (⟨o + r.val - 8, by omega⟩ : Fin 128) j (by show o + r.val = 8 + (o + r.val - 8); omega) (Nat.zero_add _).symm).trans ?_
    refine (hw _ j).trans ?_
    rw [show 0 * 128 + (o + r.val - 8) + 3 = 0 * 128 + r.val + (o - 5) by omega]

set_option maxHeartbeats 2000000 in
/-- The history rows after a point. -/
theorem hist_B (hb : Blk m I d t b c) (h : ¬ t.val % 32 = 0) : Hist I b (c + 1) (outsAt0 m d t.val t.isLt).2.1 := by
  intro k j hk hk'
  rw [outsAt0_B m d t h]
  frame_open
  simp (disch := decide) only [↓ View.readCov_skip, ↓ View.readCov_cons_toLoadRect, ↓ View.readCov_fill]
  frame_out
  refine (Tiles2.hit (Val := Elt Ideal) (e := .f32) _ _ _ k j (⟨k.val, hk'⟩ : Fin 8) j (Nat.zero_add _).symm (Nat.zero_add _).symm).trans ?_
  pointwise [k0_pay6]
  refine (Tiles2.read (Val := Elt Ideal) (e := .f32) (View.whole cc0_scratch0) _ _ (⟨k.val, hk'⟩ : Fin 8) j (⟨128 + k.val, by omega⟩ : Fin 136) j rfl (Nat.zero_add _).symm).trans ?_
  refine (Tiles2.hit (Val := Elt Ideal) (e := .f32) _ _ _ _ j (⟨120 + k.val, by omega⟩ : Fin 128) j (by show 128 + k.val = 8 + (120 + k.val); omega) (Nat.zero_add _).symm).trans ?_
  refine (zrow hb _ (fun r j => Tiles2.load (Val := Elt Ideal) (e := .f32) _ _ _ _ _ _ (Nat.zero_add _).symm rfl) _ _).trans ?_
  rw [show c * 128 + (120 + k.val) + 3 = (c + 1) * 128 + (k.val - 5) by omega]

set_option maxHeartbeats 2000000 in
/-- The history rows after a sequence's first point. -/
theorem hist_A (hb : Blk m I d t b c) (h : t.val % 32 = 0) : Hist I b (c + 1) (outsAt0 m d t.val t.isLt).2.1 := by
  intro k j hk hk'
  rw [outsAt0_A m d t h]
  frame_open
  simp (disch := decide) only [↓ View.readCov_skip, ↓ View.readCov_cons_toLoadRect, ↓ View.readCov_fill]
  frame_out
  refine (Tiles2.hit (Val := Elt Ideal) (e := .f32) _ _ _ k j (⟨k.val, hk'⟩ : Fin 8) j (Nat.zero_add _).symm (Nat.zero_add _).symm).trans ?_
  pointwise [k0_pay6]
  refine (Tiles2.read (Val := Elt Ideal) (e := .f32) (View.whole cc0_scratch0) _ _ (⟨k.val, hk'⟩ : Fin 8) j (⟨128 + k.val, by omega⟩ : Fin 136) j rfl (Nat.zero_add _).symm).trans ?_
  refine (Tiles2.hit (Val := Elt Ideal) (e := .f32) _ _ _ _ j (⟨120 + k.val, by omega⟩ : Fin 128) j (by show 128 + k.val = 8 + (120 + k.val); omega) (Nat.zero_add _).symm).trans ?_
  refine (zrow hb _ (fun r j => Tiles2.load (Val := Elt Ideal) (e := .f32) _ _ _ _ _ _ (Nat.zero_add _).symm rfl) _ _).trans ?_
  rw [show c * 128 + (120 + k.val) + 3 = (c + 1) * 128 + (k.val - 5) by omega]

/-- The zero fill is the state before the first chunk. -/
theorem zero_st (b : ℕ) (n : Fin 128) (j : Fin 1024) {h p : ℕ} : k0_pay3 (F := Ideal) (ix2 n j) = st I b 0 h p n := by
  pointwise [k0_pay3]
  rfl

end Cert.KernelIdeal.Ssd
-- ==== Proof.SsdWin.lean ====
/-
  The blocks of the kernel's windows at one grid point, as entries of its arguments.
-/
module

public import proofs.«01_k».proof.Proof.Gen.KernelIdeal.Value
public import proofs.«01_k».proof.Proof.SsdRows
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelIdeal.Ssd

open Cert.KernelIdeal Cert.KernelIdeal.Gen _root_.Ssd

/-- The entries of the eight arguments, past their ends zero. -/
def inpOf (za : FVec Ideal S8192x2560 .f32) (sm : FVec Ideal S8192x128 .f32) (cw : FVec Ideal S4x1536 .f32) (cb : FVec Ideal S1536 .f32)
    (dtb al dk : FVec Ideal S16 .f32) (nw : FVec Ideal S1024 .f32) : Inp where
  za r j := if h : r < 8192 ∧ j < 2560 then za (ix2 ⟨r, h.1⟩ ⟨j, h.2⟩) else 0
  sm r j := if h : r < 8192 ∧ j < 128 then sm (ix2 ⟨r, h.1⟩ ⟨j, h.2⟩) else 0
  cw r j := if h : r < 4 ∧ j < 1536 then cw (ix2 ⟨r, h.1⟩ ⟨j, h.2⟩) else 0
  cb j := if h : j < 1536 then cb (ix1 ⟨j, h⟩) else 0
  dtb j := if h : j < 16 then dtb (ix1 ⟨j, h⟩) else 0
  al j := if h : j < 16 then al (ix1 ⟨j, h⟩) else 0
  dk j := if h : j < 16 then dk (ix1 ⟨j, h⟩) else 0
  nw j := if h : j < 1024 then nw (ix1 ⟨j, h⟩) else 0

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-- The arguments' entries on one device. -/
abbrev inp (d : Dev nD) : Inp :=
  inpOf (m ((d : Thread nD τ).loc main_arg0)) (m ((d : Thread nD τ).loc main_arg1)) (m ((d : Thread nD τ).loc main_arg2)) (m ((d : Thread nD τ).loc main_arg3))
    (m ((d : Thread nD τ).loc main_arg4)) (m ((d : Thread nD τ).loc main_arg5)) (m ((d : Thread nD τ).loc main_arg6)) (m ((d : Thread nD τ).loc main_arg7))

variable (d : Dev nD) (t : Fin cfg0.N)

theorem w0 (r : Fin 128) (j : Fin 2560) : (iblk m d 0 t : FVec Ideal S128x2560 .f32) (ix2 r j) = (inp m d).za (t.val * 128 + r) j := by
  have ht : t.val < 64 := t.isLt
  show _ = dite _ _ _
  rw [dif_pos ⟨by omega, j.isLt⟩]
  blk_ext [iblk, V, idx t]

theorem w1 (r k : Fin 128) : (iblk m d 1 t : FVec Ideal S128x128 .f32) (ix2 r k) = (inp m d).sm (t.val * 128 + r) k := by
  have ht : t.val < 64 := t.isLt
  show _ = dite _ _ _
  rw [dif_pos ⟨by omega, k.isLt⟩]
  blk_ext [iblk, V, idx t]

theorem w2 (k : Fin 4) (j : Fin 1536) : (iblk m d 2 t : FVec Ideal S4x1536 .f32) (ix2 k j) = (inp m d).cw k j := by
  show _ = dite _ _ _
  rw [dif_pos ⟨k.isLt, j.isLt⟩]
  blk_ext [iblk, V, idx t]

theorem w3 (j : Fin 1536) : (iblk m d 3 t : FVec Ideal S1x1536 .f32) (ix2 0 j) = (inp m d).cb j := by
  show _ = dite _ _ _
  rw [dif_pos j.isLt]
  refine Eq.trans (b := (V m d main_v18 : FVec Ideal S1x1536 .f32) (ix2 0 j)) (by blk_ext [iblk, idx t]) ?_
  unfold_abbrev_sides
  simp only [hostOps0, hostOps0_1, hostOps0_2, hostOps0_3, hostOps0_4, hostOps0_5, hostOps0_6, List.flatten_cons, List.flatten_nil, List.cons_append, List.nil_append]
  after_reads_simp
  pointwise

theorem w4 (k : Fin 128) (hk : k.val < 16) : (iblk m d 4 t : FVec Ideal S1x128 .f32) (ix2 0 k) = (inp m d).dtb k := by
  show _ = dite _ _ _
  rw [dif_pos hk]
  refine Eq.trans (b := (V m d main_v1 : FVec Ideal S1x128 .f32) (ix2 0 k)) (by blk_ext [iblk, idx t]) ?_
  unfold_abbrev_sides
  simp only [hostOps0, hostOps0_1, hostOps0_2, hostOps0_3, hostOps0_4, hostOps0_5, hostOps0_6, List.flatten_cons, List.flatten_nil, List.cons_append, List.nil_append]
  after_reads_simp
  simp only [StableHlo.TRef.ofBuf, StableHlo.TRef.toBuf, cast_eq]
  pointwise
  rw [dif_pos hk]

theorem w5 (k : Fin 128) (hk : k.val < 16) : (iblk m d 5 t : FVec Ideal S1x128 .f32) (ix2 0 k) = -(Ideal.exp ((inp m d).al k)) := by
  show _ = -(Ideal.exp (dite _ _ _))
  rw [dif_pos hk]
  refine Eq.trans (b := (V m d main_v5 : FVec Ideal S1x128 .f32) (ix2 0 k)) (by blk_ext [iblk, idx t]) ?_
  unfold_abbrev_sides
  simp only [hostOps0, hostOps0_1, hostOps0_2, hostOps0_3, hostOps0_4, hostOps0_5, hostOps0_6, List.flatten_cons, List.flatten_nil, List.cons_append, List.nil_append]
  after_reads_simp
  simp only [StableHlo.TRef.ofBuf, StableHlo.TRef.toBuf, cast_eq]
  pointwise
  rw [dif_pos hk]
  rfl

theorem w6 (j : Fin 1024) : (iblk m d 6 t : FVec Ideal S1x1024 .f32) (ix2 0 j) = (inp m d).dk (j.val / 64) := by
  show _ = dite _ _ _
  rw [dif_pos (by omega)]
  refine Eq.trans (b := (V m d main_v8 : FVec Ideal S1x1024 .f32) (ix2 0 j)) (by blk_ext [iblk, idx t]) ?_
  unfold_abbrev_sides
  simp only [hostOps0, hostOps0_1, hostOps0_2, hostOps0_3, hostOps0_4, hostOps0_5, hostOps0_6, List.flatten_cons, List.flatten_nil, List.cons_append, List.nil_append]
  after_reads_simp
  pointwise

theorem w7 (j : Fin 1024) : (iblk m d 7 t : FVec Ideal S1x1024 .f32) (ix2 0 j) = (inp m d).nw j := by
  show _ = dite _ _ _
  rw [dif_pos j.isLt]
  refine Eq.trans (b := (V m d main_v19 : FVec Ideal S1x1024 .f32) (ix2 0 j)) (by blk_ext [iblk, idx t]) ?_
  unfold_abbrev_sides
  simp only [hostOps0, hostOps0_1, hostOps0_2, hostOps0_3, hostOps0_4, hostOps0_5, hostOps0_6, List.flatten_cons, List.flatten_nil, List.cons_append, List.nil_append]
  after_reads_simp
  pointwise

/-- Dividing a lane number by the lanes of a head, as the host does it on words. -/
theorem fdiv : ∀ j : Fin 1024,
    Scalar.select
      (IntOp.andi
        (IntOp.cmpi CmpIPredicate.ne (if BitVec.ofNat 32 j.val = 0 then (0 : BitVec 32) else if (BitVec.ofNat 32 j.val).msb = true then -1 else 1)
          (if (64#32 : BitVec 32) = 0 then (0 : BitVec 32) else if BitVec.msb (64#32 : BitVec 32) = true then -1 else 1))
        (IntOp.cmpi CmpIPredicate.ne (IntOp.remsi ArithUnit.host (BitVec.ofNat 32 j.val) 64#32) 0#32))
      (IntOp.subi (IntOp.divsi ArithUnit.host (BitVec.ofNat 32 j.val) 64#32) 1#32)
      (IntOp.divsi ArithUnit.host (BitVec.ofNat 32 j.val) 64#32) = BitVec.ofNat 32 (j.val / 64) := by
  decide +kernel

/-- Two small words compared, read as a number. -/
theorem hot : ∀ (a : Fin 16) (k : Fin 128), IntOp.cmpi CmpIPredicate.eq (BitVec.ofNat 32 a.val) (BitVec.ofNat 32 k.val) = if a.val = k.val then 1#1 else 0#1 := by
  decide +kernel

theorem w8 (k : Fin 128) (j : Fin 1024) : (iblk m d 8 t : FVec Ideal S128x1024 .f32) (ix2 k j) = (if j.val / 64 = k.val then 1 else 0 : EReal) := by
  refine Eq.trans (b := (V m d main_v17 : FVec Ideal S128x1024 .f32) (ix2 k j)) (by blk_ext [iblk, idx t]) ?_
  unfold_abbrev_sides
  simp only [hostOps0, hostOps0_1, hostOps0_2, hostOps0_3, hostOps0_4, hostOps0_5, hostOps0_6, List.flatten_cons, List.flatten_nil, List.cons_append, List.nil_append]
  after_reads_simp
  simp only [StableHlo.TRef.ofBuf, StableHlo.TRef.toBuf, cast_eq]
  pointwise
  refine (congrArg (fun x => FloatOps.uitofp (F := Ideal) FTy.f32 (IntOp.cmpi CmpIPredicate.eq x (BitVec.ofNat 32 k.val))) (fdiv j)).trans ?_
  refine (congrArg (FloatOps.uitofp (F := Ideal) FTy.f32) (hot (⟨j.val / 64, by omega⟩ : Fin 16) k)).trans ?_
  by_cases h : j.val / 64 = k.val
  · rw [if_pos h, if_pos h]
    show (((1#1 : BitVec 1).toNat : ℝ) : EReal) = 1
    norm_num
  · rw [if_neg h, if_neg h]
    show (((0#1 : BitVec 1).toNat : ℝ) : EReal) = 0
    norm_num

end Cert.KernelIdeal.Ssd
-- ==== Proof.SsdOutA.lean ====
/-
  The block a sequence's first grid point writes.
-/
module

public import proofs.«01_k».proof.Proof.Gen.KernelIdeal.Frame
public import proofs.«01_k».proof.Proof.SsdRows

@[expose] public section

set_option maxRecDepth 16384

noncomputable section

open Idealize.ShloMosaic Idealize.ShloMosaic.TcCoe Idealize.SL.Sem
open Idealize.ShloMosaic.Pipeline (Dat)

namespace Cert.KernelIdeal.Ssd

open Cert.KernelIdeal Cert.KernelIdeal.Gen _root_.Ssd

variable {m : (ℓ : Loc nD τ sig) → Buf (Elt Ideal) ℓ}

variable {I : Inp} {d : Dev nD} {t : Fin cfg0.N} {b c : ℕ}

set_option maxHeartbeats 2000000 in
/-- The block a sequence's first point writes. -/
theorem out_A (hb : Blk m I d t b 0) (h : t.val % 32 = 0)
    (l : Fin 128) (j : Fin 1024) : ((outsAt0 m d t.val t.isLt).1 : FVec Ideal S128x1024 .bf16) (ix2 l j) = out I b 0 l j := by
  rw [outsAt0_A m d t h]
  frame_open
  simp (disch := decide) only [↓ View.readCov_skip, ↓ View.readCov_cons_toLoadRect, ↓ View.readCov_fill]
  frame_out
  generalize hA : k0_pay5 (F := Ideal) _ _ _ _ _ _ _ _ _ = A
  have a : ∀ (r : Fin 128) (j : Fin 1536), A (ix2 r j) = cv I b (0 * 128 + r) j := by
    intro r j
    rw [← hA]
    refine conv_at I b 0 hb.cb (fun j => ?_) (fun j => ?_) (fun j => ?_) (fun j => ?_) (fun r j => ?_) (fun r j => ?_) (fun r j => ?_) (fun r j => ?_) r j
    · exact (Tiles2.load (Val := Elt Ideal) (e := .f32) _ _ _ _ _ _ rfl (Nat.zero_add _).symm).trans (hb.w 0 j)
    · exact (Tiles2.load (Val := Elt Ideal) (e := .f32) _ _ _ _ _ _ rfl (Nat.zero_add _).symm).trans (hb.w 1 j)
    · exact (Tiles2.load (Val := Elt Ideal) (e := .f32) _ _ _ _ _ _ rfl (Nat.zero_add _).symm).trans (hb.w 2 j)
    · exact (Tiles2.load (Val := Elt Ideal) (e := .f32) _ _ _ _ _ _ rfl (Nat.zero_add _).symm).trans (hb.w 3 j)
    · exact rows_A _ _ _ (zrow hb _ (fun r j => Tiles2.load (Val := Elt Ideal) (e := .f32) _ _ _ _ _ _ (Nat.zero_add _).symm rfl)) (o := 5) (by decide) (by decide) _ r j
    · exact rows_A _ _ _ (zrow hb _ (fun r j => Tiles2.load (Val := Elt Ideal) (e := .f32) _ _ _ _ _ _ (Nat.zero_add _).symm rfl)) (o := 6) (by decide) (by decide) _ r j
    · exact rows_A _ _ _ (zrow hb _ (fun r j => Tiles2.load (Val := Elt Ideal) (e := .f32) _ _ _ _ _ _ (Nat.zero_add _).symm rfl)) (o := 7) (by decide) (by decide) _ r j
    · exact (zrow hb _ (fun r j => Tiles2.load (Val := Elt Ideal) (e := .f32) _ _ _ _ _ _ (Nat.zero_add _).symm rfl)) r j
  exact out_at I b 0 (xs_at I b 0 a)
    (ybuf_at I b 0 (acs_at I b 0 hb.s hb.db hb.a) (acsT_at I b 0 hb.s hb.db hb.a)
      (xdt_at I b 0 hb.e (dt_at I b 0 hb.s hb.db) (xs_at I b 0 a)) _ rfl (bm_at I b 0 a) (cm_at I b 0 a)
      (expa_at I b 0 hb.e (acs_at I b 0 hb.s hb.db hb.a))
      (fun n j => (Tiles2.load (Val := Elt Ideal) (e := .f32) _ _ n j n (⟨j.val, by omega⟩ : Fin 1024) (Nat.zero_add _).symm (Nat.zero_add _).symm).trans (zero_st _ n _))
      (fun n j => (Tiles2.load (Val := Elt Ideal) (e := .f32) _ _ n j n (⟨512 + j.val, by omega⟩ : Fin 1024) (Nat.zero_add _).symm rfl).trans (zero_st _ n _)))
    hb.dk (fun r j => (Tiles2.load (Val := Elt Ideal) (e := .f32) _ _ r j r (⟨j.val, by omega⟩ : Fin 2560) (Nat.zero_add _).symm (Nat.zero_add _).symm).trans (hb.z r _)) hb.nw l j

end Cert.KernelIdeal.Ssd
-- ==== Proof.SsdOutB.lean ====
/-
  The block a grid point inside a sequence writes.
-/
module

public import proofs.«01_k».proof.Proof.Gen.KernelIdeal.Frame
public import proofs.«01_k».proof.Proof.SsdRows

@[expose] public section

set_option maxRecDepth 16384

noncomputable section

open Idealize.ShloMosaic Idealize.ShloMosaic.TcCoe Idealize.SL.Sem
open Idealize.ShloMosaic.Pipeline (Dat)

namespace Cert.KernelIdeal.Ssd

open Cert.KernelIdeal Cert.KernelIdeal.Gen _root_.Ssd

variable {m : (ℓ : Loc nD τ sig) → Buf (Elt Ideal) ℓ}

variable {I : Inp} {d : Dev nD} {t : Fin cfg0.N} {b c : ℕ}

set_option maxHeartbeats 2000000 in
/-- The block a point writes, inside a sequence. -/
theorem out_B (hb : Blk m I d t b c) (h : ¬ t.val % 32 = 0)
    (hH : Hist I b c (outsAt0 m d (t.val - 1) (by omega)).2.1) (hS : Stt I b c (outsAt0 m d (t.val - 1) (by omega)).2.2)
    (l : Fin 128) (j : Fin 1024) : ((outsAt0 m d t.val t.isLt).1 : FVec Ideal S128x1024 .bf16) (ix2 l j) = out I b c l j := by
  rw [outsAt0_B m d t h]
  frame_open
  simp (disch := decide) only [↓ View.readCov_skip, ↓ View.readCov_cons_toLoadRect, ↓ View.readCov_fill]
  frame_out
  generalize hA : k0_pay5 (F := Ideal) _ _ _ _ _ _ _ _ _ = A
  have a : ∀ (r : Fin 128) (j : Fin 1536), A (ix2 r j) = cv I b (c * 128 + r) j := by
    intro r j
    rw [← hA]
    refine conv_at I b c hb.cb (fun j => ?_) (fun j => ?_) (fun j => ?_) (fun j => ?_) (fun r j => ?_) (fun r j => ?_) (fun r j => ?_) (fun r j => ?_) r j
    · exact (Tiles2.load (Val := Elt Ideal) (e := .f32) _ _ _ _ _ _ rfl (Nat.zero_add _).symm).trans (hb.w 0 j)
    · exact (Tiles2.load (Val := Elt Ideal) (e := .f32) _ _ _ _ _ _ rfl (Nat.zero_add _).symm).trans (hb.w 1 j)
    · exact (Tiles2.load (Val := Elt Ideal) (e := .f32) _ _ _ _ _ _ rfl (Nat.zero_add _).symm).trans (hb.w 2 j)
    · exact (Tiles2.load (Val := Elt Ideal) (e := .f32) _ _ _ _ _ _ rfl (Nat.zero_add _).symm).trans (hb.w 3 j)
    · exact rows_B _ _ _ (zrow hb _ (fun r j => Tiles2.load (Val := Elt Ideal) (e := .f32) _ _ _ _ _ _ (Nat.zero_add _).symm rfl)) (by rw [read_unread_whole]; exact hH) (o := 5) (by decide) (by decide) _ r j
    · exact rows_B _ _ _ (zrow hb _ (fun r j => Tiles2.load (Val := Elt Ideal) (e := .f32) _ _ _ _ _ _ (Nat.zero_add _).symm rfl)) (by rw [read_unread_whole]; exact hH) (o := 6) (by decide) (by decide) _ r j
    · exact rows_B _ _ _ (zrow hb _ (fun r j => Tiles2.load (Val := Elt Ideal) (e := .f32) _ _ _ _ _ _ (Nat.zero_add _).symm rfl)) (by rw [read_unread_whole]; exact hH) (o := 7) (by decide) (by decide) _ r j
    · exact (zrow hb _ (fun r j => Tiles2.load (Val := Elt Ideal) (e := .f32) _ _ _ _ _ _ (Nat.zero_add _).symm rfl)) r j
  exact out_at I b c (xs_at I b c a)
    (ybuf_at I b c (acs_at I b c hb.s hb.db hb.a) (acsT_at I b c hb.s hb.db hb.a)
      (xdt_at I b c hb.e (dt_at I b c hb.s hb.db) (xs_at I b c a)) _ rfl (bm_at I b c a) (cm_at I b c a)
      (expa_at I b c hb.e (acs_at I b c hb.s hb.db hb.a))
      (fun n j => (Tiles2.load (Val := Elt Ideal) (e := .f32) _ _ n j n (⟨j.val, by omega⟩ : Fin 1024) (Nat.zero_add _).symm (Nat.zero_add _).symm).trans (by rw [read_unread_whole]; exact hS n _))
      (fun n j => (Tiles2.load (Val := Elt Ideal) (e := .f32) _ _ n j n (⟨512 + j.val, by omega⟩ : Fin 1024) (Nat.zero_add _).symm rfl).trans (by rw [read_unread_whole]; exact hS n _)))
    hb.dk (fun r j => (Tiles2.load (Val := Elt Ideal) (e := .f32) _ _ r j r (⟨j.val, by omega⟩ : Fin 2560) (Nat.zero_add _).symm (Nat.zero_add _).symm).trans (hb.z r _)) hb.nw l j

end Cert.KernelIdeal.Ssd
-- ==== Proof.SsdStA.lean ====
/-
  The state a sequence's first grid point leaves.
-/
module

public import proofs.«01_k».proof.Proof.Gen.KernelIdeal.Frame
public import proofs.«01_k».proof.Proof.SsdRows

@[expose] public section

set_option maxRecDepth 16384

noncomputable section

open Idealize.ShloMosaic Idealize.ShloMosaic.TcCoe Idealize.SL.Sem
open Idealize.ShloMosaic.Pipeline (Dat)

namespace Cert.KernelIdeal.Ssd

open Cert.KernelIdeal Cert.KernelIdeal.Gen _root_.Ssd

variable {m : (ℓ : Loc nD τ sig) → Buf (Elt Ideal) ℓ}

variable {I : Inp} {d : Dev nD} {t : Fin cfg0.N} {b c : ℕ}

set_option maxHeartbeats 2000000 in
/-- The state a sequence's first point leaves. -/
theorem st_A (hb : Blk m I d t b 0) (h : t.val % 32 = 0)
    : Stt I b (0 + 1) (outsAt0 m d t.val t.isLt).2.2 := by
  intro l j
  rw [outsAt0_A m d t h]
  frame_open
  simp (disch := decide) only [↓ View.readCov_skip, ↓ View.readCov_cons_toLoadRect, ↓ View.readCov_fill]
  frame_out
  generalize hA : k0_pay5 (F := Ideal) _ _ _ _ _ _ _ _ _ = A
  have a : ∀ (r : Fin 128) (j : Fin 1536), A (ix2 r j) = cv I b (0 * 128 + r) j := by
    intro r j
    rw [← hA]
    refine conv_at I b 0 hb.cb (fun j => ?_) (fun j => ?_) (fun j => ?_) (fun j => ?_) (fun r j => ?_) (fun r j => ?_) (fun r j => ?_) (fun r j => ?_) r j
    · exact (Tiles2.load (Val := Elt Ideal) (e := .f32) _ _ _ _ _ _ rfl (Nat.zero_add _).symm).trans (hb.w 0 j)
    · exact (Tiles2.load (Val := Elt Ideal) (e := .f32) _ _ _ _ _ _ rfl (Nat.zero_add _).symm).trans (hb.w 1 j)
    · exact (Tiles2.load (Val := Elt Ideal) (e := .f32) _ _ _ _ _ _ rfl (Nat.zero_add _).symm).trans (hb.w 2 j)
    · exact (Tiles2.load (Val := Elt Ideal) (e := .f32) _ _ _ _ _ _ rfl (Nat.zero_add _).symm).trans (hb.w 3 j)
    · exact rows_A _ _ _ (zrow hb _ (fun r j => Tiles2.load (Val := Elt Ideal) (e := .f32) _ _ _ _ _ _ (Nat.zero_add _).symm rfl)) (o := 5) (by decide) (by decide) _ r j
    · exact rows_A _ _ _ (zrow hb _ (fun r j => Tiles2.load (Val := Elt Ideal) (e := .f32) _ _ _ _ _ _ (Nat.zero_add _).symm rfl)) (o := 6) (by decide) (by decide) _ r j
    · exact rows_A _ _ _ (zrow hb _ (fun r j => Tiles2.load (Val := Elt Ideal) (e := .f32) _ _ _ _ _ _ (Nat.zero_add _).symm rfl)) (o := 7) (by decide) (by decide) _ r j
    · exact (zrow hb _ (fun r j => Tiles2.load (Val := Elt Ideal) (e := .f32) _ _ _ _ _ _ (Nat.zero_add _).symm rfl)) r j
  refine ladder _ _ _ l j _ j.isLt (fun x hx => ?_) (fun hj => ?_)
  · rw [hx]
    exact st1_at I b 0 (xdt_at I b 0 hb.e (dt_at I b 0 hb.s hb.db) (xs_at I b 0 a)) (dte_at I b 0 hb.e (acs_at I b 0 hb.s hb.db hb.a))
      (expa_at I b 0 hb.e (acs_at I b 0 hb.s hb.db hb.a)) (bm_at I b 0 a)
      (fun n j => (Tiles2.load (Val := Elt Ideal) (e := .f32) _ _ n j n (⟨512 + j.val, by omega⟩ : Fin 1024) (Nat.zero_add _).symm rfl).trans (zero_st _ n _)) l x
  · refine ladder _ _ _ l j _ (by omega) (fun x hx => ?_) (fun hj' => absurd hj' (Nat.not_lt_zero _))
    rw [hx, Nat.zero_add x.val]
    exact st0_at I b 0 (xdt_at I b 0 hb.e (dt_at I b 0 hb.s hb.db) (xs_at I b 0 a)) (dte_at I b 0 hb.e (acs_at I b 0 hb.s hb.db hb.a))
      (expa_at I b 0 hb.e (acs_at I b 0 hb.s hb.db hb.a)) (bm_at I b 0 a)
      (fun n j => (Tiles2.load (Val := Elt Ideal) (e := .f32) _ _ n j n (⟨j.val, by omega⟩ : Fin 1024) (Nat.zero_add _).symm (Nat.zero_add _).symm).trans (zero_st _ n _)) l x

end Cert.KernelIdeal.Ssd
-- ==== Proof.SsdStB.lean ====
/-
  The state a grid point inside a sequence leaves.
-/
module

public import proofs.«01_k».proof.Proof.Gen.KernelIdeal.Frame
public import proofs.«01_k».proof.Proof.SsdRows

@[expose] public section

set_option maxRecDepth 16384

noncomputable section

open Idealize.ShloMosaic Idealize.ShloMosaic.TcCoe Idealize.SL.Sem
open Idealize.ShloMosaic.Pipeline (Dat)

namespace Cert.KernelIdeal.Ssd

open Cert.KernelIdeal Cert.KernelIdeal.Gen _root_.Ssd

variable {m : (ℓ : Loc nD τ sig) → Buf (Elt Ideal) ℓ}

variable {I : Inp} {d : Dev nD} {t : Fin cfg0.N} {b c : ℕ}

set_option maxHeartbeats 2000000 in
/-- The state a point leaves, inside a sequence. -/
theorem st_B (hb : Blk m I d t b c) (h : ¬ t.val % 32 = 0)
    (hH : Hist I b c (outsAt0 m d (t.val - 1) (by omega)).2.1) (hS : Stt I b c (outsAt0 m d (t.val - 1) (by omega)).2.2)
    : Stt I b (c + 1) (outsAt0 m d t.val t.isLt).2.2 := by
  intro l j
  rw [outsAt0_B m d t h]
  frame_open
  simp (disch := decide) only [↓ View.readCov_skip, ↓ View.readCov_cons_toLoadRect, ↓ View.readCov_fill]
  frame_out
  generalize hA : k0_pay5 (F := Ideal) _ _ _ _ _ _ _ _ _ = A
  have a : ∀ (r : Fin 128) (j : Fin 1536), A (ix2 r j) = cv I b (c * 128 + r) j := by
    intro r j
    rw [← hA]
    refine conv_at I b c hb.cb (fun j => ?_) (fun j => ?_) (fun j => ?_) (fun j => ?_) (fun r j => ?_) (fun r j => ?_) (fun r j => ?_) (fun r j => ?_) r j
    · exact (Tiles2.load (Val := Elt Ideal) (e := .f32) _ _ _ _ _ _ rfl (Nat.zero_add _).symm).trans (hb.w 0 j)
    · exact (Tiles2.load (Val := Elt Ideal) (e := .f32) _ _ _ _ _ _ rfl (Nat.zero_add _).symm).trans (hb.w 1 j)
    · exact (Tiles2.load (Val := Elt Ideal) (e := .f32) _ _ _ _ _ _ rfl (Nat.zero_add _).symm).trans (hb.w 2 j)
    · exact (Tiles2.load (Val := Elt Ideal) (e := .f32) _ _ _ _ _ _ rfl (Nat.zero_add _).symm).trans (hb.w 3 j)
    · exact rows_B _ _ _ (zrow hb _ (fun r j => Tiles2.load (Val := Elt Ideal) (e := .f32) _ _ _ _ _ _ (Nat.zero_add _).symm rfl)) (by rw [read_unread_whole]; exact hH) (o := 5) (by decide) (by decide) _ r j
    · exact rows_B _ _ _ (zrow hb _ (fun r j => Tiles2.load (Val := Elt Ideal) (e := .f32) _ _ _ _ _ _ (Nat.zero_add _).symm rfl)) (by rw [read_unread_whole]; exact hH) (o := 6) (by decide) (by decide) _ r j
    · exact rows_B _ _ _ (zrow hb _ (fun r j => Tiles2.load (Val := Elt Ideal) (e := .f32) _ _ _ _ _ _ (Nat.zero_add _).symm rfl)) (by rw [read_unread_whole]; exact hH) (o := 7) (by decide) (by decide) _ r j
    · exact (zrow hb _ (fun r j => Tiles2.load (Val := Elt Ideal) (e := .f32) _ _ _ _ _ _ (Nat.zero_add _).symm rfl)) r j
  refine ladder _ _ _ l j _ j.isLt (fun x hx => ?_) (fun hj => ?_)
  · rw [hx]
    exact st1_at I b c (xdt_at I b c hb.e (dt_at I b c hb.s hb.db) (xs_at I b c a)) (dte_at I b c hb.e (acs_at I b c hb.s hb.db hb.a))
      (expa_at I b c hb.e (acs_at I b c hb.s hb.db hb.a)) (bm_at I b c a)
      (fun n j => (Tiles2.load (Val := Elt Ideal) (e := .f32) _ _ n j n (⟨512 + j.val, by omega⟩ : Fin 1024) (Nat.zero_add _).symm rfl).trans (by rw [read_unread_whole]; exact hS n _)) l x
  · refine ladder _ _ _ l j _ (by omega) (fun x hx => ?_) (fun hj' => absurd hj' (Nat.not_lt_zero _))
    rw [hx, Nat.zero_add x.val]
    exact st0_at I b c (xdt_at I b c hb.e (dt_at I b c hb.s hb.db) (xs_at I b c a)) (dte_at I b c hb.e (acs_at I b c hb.s hb.db hb.a))
      (expa_at I b c hb.e (acs_at I b c hb.s hb.db hb.a)) (bm_at I b c a)
      (fun n j => (Tiles2.load (Val := Elt Ideal) (e := .f32) _ _ n j n (⟨j.val, by omega⟩ : Fin 1024) (Nat.zero_add _).symm (Nat.zero_add _).symm).trans (by rw [read_unread_whole]; exact hS n _)) l x

end Cert.KernelIdeal.Ssd
-- ==== Proof.SsdPoints.lean ====
/-
  Every grid point of the kernel, and what its result array ends holding.
-/
module

public import proofs.«01_k».proof.Proof.SsdWin
public import proofs.«01_k».proof.Proof.SsdOutA
public import proofs.«01_k».proof.Proof.SsdOutB
public import proofs.«01_k».proof.Proof.SsdStA
public import proofs.«01_k».proof.Proof.SsdStB

@[expose] public section

set_option maxRecDepth 16384

noncomputable section

open Idealize.ShloMosaic Idealize.ShloMosaic.TcCoe Idealize.SL.Sem
open Idealize.ShloMosaic.Pipeline (Dat)

namespace Cert.KernelIdeal.Ssd

open Cert.KernelIdeal Cert.KernelIdeal.Gen _root_.Ssd

variable (m : (ℓ : Loc nD τ sig) → Buf (Elt Ideal) ℓ) (d : Dev nD)

/-- The blocks of a point hold a chunk of a sequence. -/
theorem blk_at (t : Fin cfg0.N) : Blk m (inp m d) d t (t.val / 32) (t.val % 32) where
  z r j := by rw [show t.val / 32 * 4096 + (t.val % 32 * 128 + r.val) = t.val * 128 + r.val by omega]; exact w0 m d t r j
  s r k := by rw [show t.val / 32 * 4096 + (t.val % 32 * 128 + r.val) = t.val * 128 + r.val by omega]; exact w1 m d t r k
  w k j := w2 m d t k j
  cb j := w3 m d t j
  db k h := w4 m d t k h
  a k h := w5 m d t k h
  dk j := w6 m d t j
  nw j := w7 m d t j
  e k j := w8 m d t k j

theorem blk_first (t : Fin cfg0.N) (h : t.val % 32 = 0) : Blk m (inp m d) d t (t.val / 32) 0 := h ▸ blk_at m d t

/-- The history rows and the state after every point. -/
theorem carried : ∀ (n : ℕ) (hn : n < cfg0.N),
    Hist (inp m d) (n / 32) (n % 32 + 1) (outsAt0 m d n hn).2.1 ∧ Stt (inp m d) (n / 32) (n % 32 + 1) (outsAt0 m d n hn).2.2 := by
  intro n
  induction n with
  | zero =>
    intro hn
    exact ⟨hist_A (t := ⟨0, hn⟩) (blk_first m d ⟨0, hn⟩ rfl) rfl, st_A (t := ⟨0, hn⟩) (blk_first m d ⟨0, hn⟩ rfl) rfl⟩
  | succ n ih =>
    intro hn
    by_cases h : (n + 1) % 32 = 0
    · rw [h]
      exact ⟨hist_A (t := ⟨n + 1, hn⟩) (blk_first m d ⟨n + 1, hn⟩ h) h, st_A (t := ⟨n + 1, hn⟩) (blk_first m d ⟨n + 1, hn⟩ h) h⟩
    · have hp := ih (by omega)
      rw [show n / 32 = (n + 1) / 32 by omega, show n % 32 + 1 = (n + 1) % 32 by omega] at hp
      exact ⟨hist_B (t := ⟨n + 1, hn⟩) (blk_at m d ⟨n + 1, hn⟩) h, st_B (t := ⟨n + 1, hn⟩) (blk_at m d ⟨n + 1, hn⟩) h hp.1 hp.2⟩

/-- The block every point writes. -/
theorem block_at (n : ℕ) (hn : n < cfg0.N) (l : Fin 128) (j : Fin 1024) :
    ((outsAt0 m d n hn).1 : FVec Ideal S128x1024 .bf16) (ix2 l j) = out (inp m d) (n / 32) (n % 32) l j := by
  by_cases h : n % 32 = 0
  · rw [h]
    exact out_A (t := ⟨n, hn⟩) (blk_first m d ⟨n, hn⟩ h) h l j
  · have hp := carried m d (n - 1) (by omega)
    rw [show (n - 1) / 32 = n / 32 by omega, show (n - 1) % 32 + 1 = n % 32 by omega] at hp
    exact out_B (t := ⟨n, hn⟩) (blk_at m d ⟨n, hn⟩) h hp.1 hp.2 l j

/-- What the result array ends holding. -/
theorem result_at (i : Fin 8192) (j : Fin 1024) :
    (Value.G9 m d : FVec Ideal S8192x1024 .bf16) (ix2 i j) = out (inp m d) (i.val / 4096) (i.val / 128 % 32) (i.val % 128) j := by
  have hp : Value.pt9Of (ix2 i j) = i.val / 128 := by
    show 1 * (i.val / 128 - 0) + 1 * (j.val / 1024 - 0) = i.val / 128
    omega
  have hl : Value.loc9Of (ix2 i j) = ix2 (⟨i.val % 128, Nat.mod_lt _ (by decide)⟩ : Fin 128) j := by
    funext a
    refine Fin.ext ?_
    match a with
    | ⟨0, _⟩ => rfl
    | ⟨1, _⟩ => show j.val % 1024 = j.val; omega
  have hN : i.val / 128 < cfg0.N := by show i.val / 128 < 64; omega
  have h := block_at m d (i.val / 128) hN ⟨i.val % 128, Nat.mod_lt _ (by decide)⟩ j
  rw [show i.val / 128 / 32 = i.val / 4096 by omega] at h
  refine Eq.trans ?_ h
  unfold Value.G9
  rw [dif_pos (by rw [hp]; exact hN), hl, Value.outsAt0_sweep m d (i.val / 128) hN, Value.fold0_congr m d _ _ _ _ hp]

end Cert.KernelIdeal.Ssd
-- ==== Proof.RefA.lean ====
/-
  The reference up to its scan, first half: the convolution, its activation, and the step sizes.
-/
module

public import proofs.«01_k».proof.Proof.Gen.ReferenceIdeal.Run
public import proofs.«01_k».proof.Proof.SsdSpec
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.ReferenceIdeal.Ssd

open Cert.ReferenceIdeal Cert.ReferenceIdeal.Gen _root_.Ssd StableHlo

variable {I : Inp} (V : Valuation τ sig (Elt Ideal))

set_option maxHeartbeats 1000000

theorem c0_v1 (h : ∀ (r : Fin 8192) (j : Fin 2560), (V (Proc.devRef .tc main_arg0) : FVec Ideal S8192x2560 .f32) (ix2 r j) = I.za r j) (b : Fin 2) (i : Fin 4096) (j : Fin 1024) :
    (after hostOps0 V (Proc.devRef .tc main_v1) : FVec Ideal S2x4096x1024 .f32) (ix3 b i j) = I.za (b * 4096 + i) j := by
  simp only [hostOps0]
  after_reads_simp
  pointwise
  rw [h]

theorem c0_v3 (h : ∀ (r : Fin 8192) (j : Fin 2560), (V (Proc.devRef .tc main_arg0) : FVec Ideal S8192x2560 .f32) (ix2 r j) = I.za r j) (b : Fin 2) (i : Fin 4096) (j : Fin 1536) :
    (after hostOps0 V (Proc.devRef .tc main_v3) : FVec Ideal S2x4096x1536 .f32) (ix3 b i j) = I.za (b * 4096 + i) (1024 + j) := by
  simp only [hostOps0]
  after_reads_simp
  pointwise
  rw [h]

theorem c0_v5 (h : ∀ (r : Fin 8192) (j : Fin 128), (V (Proc.devRef .tc main_arg1) : FVec Ideal S8192x128 .f32) (ix2 r j) = I.sm r j) (b : Fin 2) (i : Fin 4096) (j : Fin 16) :
    (after hostOps0 V (Proc.devRef .tc main_v5) : FVec Ideal S2x4096x16 .f32) (ix3 b i j) = I.sm (b * 4096 + i) j := by
  simp only [hostOps0]
  after_reads_simp
  pointwise
  rw [h]

theorem c0_c : after hostOps0 V (Proc.devRef .tc main_c) = constantI S_ 32 0#32 := by
  simp only [hostOps0]
  after_reads_simp

theorem c1_v6 (hc : V (Proc.devRef .tc main_c) = constantI S_ 32 0#32)
    (h : ∀ (b : Fin 2) (i : Fin 4096) (j : Fin 1536), (V (Proc.devRef .tc main_v3) : FVec Ideal S2x4096x1536 .f32) (ix3 b i j) = I.za (b * 4096 + i) (1024 + j)) (b : Fin 2) (i : Fin 4099) (j : Fin 1536) :
    (after hostOps0_1 V (Proc.devRef .tc main_v6) : FVec Ideal S2x4099x1536 .f32) (ix3 b i j) = up I b i j := by
  simp only [hostOps0_1]
  after_reads_simp
  simp only [StableHlo.TRef.ofBuf, StableHlo.TRef.toBuf, cast_eq]
  rw [hc]
  pointwise
  unfold up
  by_cases hi : i.val < 3
  · rw [dif_neg (by omega), if_pos hi]
    show (((0#32 : BitVec 32).toInt : ℝ) : EReal) = 0
    norm_num
  · rw [dif_pos ⟨by omega, by omega⟩, if_neg hi, h]

theorem c2_v36 (h : ∀ (b : Fin 2) (i : Fin 4099) (j : Fin 1536), (V (Proc.devRef .tc main_v6) : FVec Ideal S2x4099x1536 .f32) (ix3 b i j) = up I b i j)
    (hw : ∀ (k : Fin 4) (j : Fin 1536), (V (Proc.devRef .tc main_arg2) : FVec Ideal S4x1536 .f32) (ix2 k j) = I.cw k j)
    (hb : ∀ (j : Fin 1536), (V (Proc.devRef .tc main_arg3) : FVec Ideal S1536 .f32) (ix1 j) = I.cb j) (b : Fin 2) (i : Fin 4096) (j : Fin 1536) :
    (after hostOps0_2 V (Proc.devRef .tc main_v36) : FVec Ideal S2x4096x1536 .f32) (ix3 b i j) = cv I b i j := by
  simp only [hostOps0_2]
  after_reads_simp
  pointwise
  simp only [h, hw, hb]
  unfold cv
  rw [Nat.add_comm 1 i.val, Nat.add_comm 2 i.val, Nat.add_comm 3 i.val]
  rfl

theorem c3_v37 (h : ∀ (b : Fin 2) (i : Fin 4096) (j : Fin 1536), (V (Proc.devRef .tc main_v36) : FVec Ideal S2x4096x1536 .f32) (ix3 b i j) = cv I b i j) (b : Fin 2) (i : Fin 4096) (j : Fin 1536) :
    (after hostOps0_3 V (Proc.devRef .tc main_v37) : FVec Ideal S2x4096x1536 .f32) (ix3 b i j) = xb I b i j := by
  simp only [hostOps0_3]
  after_reads_simp
  simp only [StableHlo.TRef.ofBuf, StableHlo.TRef.toBuf, cast_eq]
  pointwise
  rw [h]
  rfl

theorem c4_v41 (h : ∀ (b : Fin 2) (i : Fin 4096) (j : Fin 1536), (V (Proc.devRef .tc main_v37) : FVec Ideal S2x4096x1536 .f32) (ix3 b i j) = xb I b i j) (b : Fin 2) (i : Fin 4096) (k : Fin 16) (p : Fin 64) :
    (after hostOps0_4 V (Proc.devRef .tc main_v41) : FVec Ideal S2x4096x16x64 .f32) (ix4 b i k p) = xb I b i (k * 64 + p) := by
  simp only [hostOps0_4]
  after_reads_simp
  pointwise
  rw [h]

theorem c4_v42 (h : ∀ (b : Fin 2) (i : Fin 4096) (j : Fin 1536), (V (Proc.devRef .tc main_v37) : FVec Ideal S2x4096x1536 .f32) (ix3 b i j) = xb I b i j) (b : Fin 2) (i : Fin 4096) (g : Fin 2) (n : Fin 128) :
    (after hostOps0_4 V (Proc.devRef .tc main_v42) : FVec Ideal S2x4096x2x128 .f32) (ix4 b i g n) = xb I b i (1024 + (g * 128 + n)) := by
  simp only [hostOps0_4]
  after_reads_simp
  pointwise
  rw [h]

theorem c4_v43 (h : ∀ (b : Fin 2) (i : Fin 4096) (j : Fin 1536), (V (Proc.devRef .tc main_v37) : FVec Ideal S2x4096x1536 .f32) (ix3 b i j) = xb I b i j) (b : Fin 2) (i : Fin 4096) (g : Fin 2) (n : Fin 128) :
    (after hostOps0_4 V (Proc.devRef .tc main_v43) : FVec Ideal S2x4096x2x128 .f32) (ix4 b i g n) = xb I b i (1280 + (g * 128 + n)) := by
  simp only [hostOps0_4]
  after_reads_simp
  pointwise
  rw [h]

theorem c4_v46 (h : ∀ (b : Fin 2) (i : Fin 4096) (k : Fin 16), (V (Proc.devRef .tc main_v5) : FVec Ideal S2x4096x16 .f32) (ix3 b i k) = I.sm (b * 4096 + i) k)
    (hb : ∀ (k : Fin 16), (V (Proc.devRef .tc main_arg4) : FVec Ideal S16 .f32) (ix1 k) = I.dtb k) (b : Fin 2) (i : Fin 4096) (k : Fin 16) :
    (after hostOps0_4 V (Proc.devRef .tc main_v46) : FVec Ideal S2x4096x16 .f32) (ix3 b i k) = I.sm (b * 4096 + i) k + I.dtb k := by
  simp only [hostOps0_4]
  after_reads_simp
  pointwise
  rw [h, hb]

theorem c5_v47 (h : ∀ (b : Fin 2) (i : Fin 4096) (k : Fin 16), (V (Proc.devRef .tc main_v46) : FVec Ideal S2x4096x16 .f32) (ix3 b i k) = I.sm (b * 4096 + i) k + I.dtb k) (b : Fin 2) (i : Fin 4096) (k : Fin 16) :
    (after hostOps0_5 V (Proc.devRef .tc main_v47) : FVec Ideal S2x4096x16 .f32) (ix3 b i k) = dt I b i k := by
  simp only [hostOps0_5]
  after_reads_simp
  simp only [StableHlo.TRef.ofBuf, StableHlo.TRef.toBuf, cast_eq]
  pointwise
  rw [h]
  rw [if_neg (fun hn => hn rfl)]
  rfl

theorem c6_v53 (h : ∀ (b : Fin 2) (i : Fin 4096) (k : Fin 16), (V (Proc.devRef .tc main_v47) : FVec Ideal S2x4096x16 .f32) (ix3 b i k) = dt I b i k)
    (hx : ∀ (b : Fin 2) (i : Fin 4096) (k : Fin 16) (p : Fin 64), (V (Proc.devRef .tc main_v41) : FVec Ideal S2x4096x16x64 .f32) (ix4 b i k p) = xb I b i (k * 64 + p))
    (b : Fin 2) (c : Fin 32) (l : Fin 128) (k : Fin 16) (p : Fin 64) :
    (after hostOps0_6 V (Proc.devRef .tc main_v53) : FVec Ideal S2x32x128x16x64 .f32) (ix5 b c l k p) = xdt I b (c * 128 + l) k p := by
  simp only [hostOps0_6]
  after_reads_simp
  pointwise
  rw [h, hx]
  rfl

theorem c6_v57 (h : ∀ (b : Fin 2) (i : Fin 4096) (k : Fin 16), (V (Proc.devRef .tc main_v47) : FVec Ideal S2x4096x16 .f32) (ix3 b i k) = dt I b i k)
    (ha : ∀ (k : Fin 16), (V (Proc.devRef .tc main_arg5) : FVec Ideal S16 .f32) (ix1 k) = I.al k)
    (b : Fin 2) (c : Fin 32) (l : Fin 128) (k : Fin 16) :
    (after hostOps0_6 V (Proc.devRef .tc main_v57) : FVec Ideal S2x32x128x16 .f32) (ix4 b c l k) = dt I b (c * 128 + l) k * -(Ideal.exp (I.al k)) := by
  simp only [hostOps0_6]
  after_reads_simp
  pointwise
  rw [h, ha]

end Cert.ReferenceIdeal.Ssd
-- ==== Proof.RefB.lean ====
/-
  The reference up to its scan, second half: the cumulative decay, the products inside a chunk, and what a chunk adds to the state.
-/
module

public import proofs.«01_k».proof.Proof.Gen.ReferenceIdeal.Run
public import proofs.«01_k».proof.Proof.SsdSpec
public import Idealize.ShloMosaic.Lib.Pointwise
public import Idealize.ShloMosaic.Lib.Claim
public import Idealize.ShloMosaic.Lib.WordCmp
public import Idealize.ShloMosaic.Lib.StableHlo.RunRead

@[expose] public section

set_option maxRecDepth 16384

noncomputable section

open Idealize.ShloMosaic Idealize.ShloMosaic.TcCoe Idealize.SL.Sem

namespace Cert.ReferenceIdeal.Ssd

open Cert.ReferenceIdeal Cert.ReferenceIdeal.Gen _root_.Ssd StableHlo

variable {I : Inp} (V : Valuation τ sig (Elt Ideal))

set_option maxHeartbeats 1000000

/-- Two sums of extended reals with equal terms. -/
theorem sum_eq {N : ℕ} {f g : Fin N → EReal} (h : ∀ x, f x = g x) : ∑ x, f x = ∑ x, g x := Finset.sum_congr rfl fun x _ => h x

/-- The inner products of a chunk, with the factors in the reference's order. -/
theorem cb_eq (A B : FVec Ideal S2x32x128x2x128 .f32)
    (hA : ∀ (b : Fin 2) (c : Fin 32) (l : Fin 128) (g : Fin 2) (n : Fin 128), A (ix5 b c l g n) = xb I b (c * 128 + l) (1024 + (g * 128 + n)))
    (hB : ∀ (b : Fin 2) (c : Fin 32) (l : Fin 128) (g : Fin 2) (n : Fin 128), B (ix5 b c l g n) = xb I b (c * 128 + l) (1280 + (g * 128 + n)))
    (b : Fin 2) (c : Fin 32) (l s : Fin 128) (g : Fin 2) :
    (∑ n : Fin 128, (A (ix5 b c s g n) : EReal) * (B (ix5 b c l g n) : EReal)) = cbm I b c g l s :=
  sum_eq fun n => by
    rw [hA, hB]
    exact mul_comm _ _

theorem c8_v59 (h : ∀ (b : Fin 2) (i : Fin 4096) (g : Fin 2) (n : Fin 128), (V (Proc.devRef .tc main_v42) : FVec Ideal S2x4096x2x128 .f32) (ix4 b i g n) = xb I b i (1024 + (g * 128 + n)))
    (b : Fin 2) (c : Fin 32) (l : Fin 128) (g : Fin 2) (n : Fin 128) :
    (after hostOps0_8 V (Proc.devRef .tc main_v59) : FVec Ideal S2x32x128x2x128 .f32) (ix5 b c l g n) = xb I b (c * 128 + l) (1024 + (g * 128 + n)) := by
  simp only [hostOps0_8]
  after_reads_simp
  pointwise
  rw [h]

theorem c8_v60 (h : ∀ (b : Fin 2) (i : Fin 4096) (g : Fin 2) (n : Fin 128), (V (Proc.devRef .tc main_v43) : FVec Ideal S2x4096x2x128 .f32) (ix4 b i g n) = xb I b i (1280 + (g * 128 + n)))
    (b : Fin 2) (c : Fin 32) (l : Fin 128) (g : Fin 2) (n : Fin 128) :
    (after hostOps0_8 V (Proc.devRef .tc main_v60) : FVec Ideal S2x32x128x2x128 .f32) (ix5 b c l g n) = xb I b (c * 128 + l) (1280 + (g * 128 + n)) := by
  simp only [hostOps0_8]
  after_reads_simp
  pointwise
  rw [h]

theorem c8_v61 (l s : Fin 128) : (after hostOps0_8 V (Proc.devRef .tc main_v61) : IVec S128x128 1) (ix2 l s) = 1#1 := by
  simp only [hostOps0_8]
  after_reads_simp
  pointwise

theorem c9_v62 (h : ∀ l s : Fin 128, (V (Proc.devRef .tc main_v61) : IVec S128x128 1) (ix2 l s) = 1#1) (l s : Fin 128) :
    (after hostOps0_9 V (Proc.devRef .tc main_v62) : IVec S128x128 1) (ix2 l s) = if s.val ≤ l.val then 1#1 else 0#1 := by
  simp only [hostOps0_9]
  after_reads_simp
  simp only [StableHlo.TRef.ofBuf, StableHlo.TRef.toBuf, cast_eq]
  pointwise
  rw [h]
  have hl := l.isLt
  have hs := s.isLt
  have e0 : IntOp.addi (BitVec.ofNat 32 l.val) 0#32 = BitVec.ofNat 32 l.val := BitVec.add_zero _
  have e1 : IntOp.cmpi CmpIPredicate.sge (BitVec.ofNat 32 l.val) (BitVec.ofNat 32 s.val) = IntOp.cmpi CmpIPredicate.sle (BitVec.ofNat 32 s.val) (BitVec.ofNat 32 l.val) := rfl
  rw [e0, e1]
  by_cases hc : s.val ≤ l.val
  · rw [(WordCmp.cmpi_sle_ofNat_eq_one_iff (w := 32) (by omega) (by omega)).2 hc, if_pos hc]
    exact if_pos rfl
  · rw [(WordCmp.cmpi_sle_ofNat_eq_zero_iff (w := 32) (by omega) (by omega)).2 (by omega), if_neg hc]
    exact if_neg (by decide)

theorem c10_v67 (h : ∀ (b : Fin 2) (c : Fin 32) (l : Fin 128) (k : Fin 16), (V (Proc.devRef .tc main_v58) : FVec Ideal S2x32x128x16 .f32) (ix4 b c l k) = acs I b c l k)
    (b : Fin 2) (c : Fin 32) (l s : Fin 128) (k : Fin 16) :
    (after hostOps0_10 V (Proc.devRef .tc main_v67) : FVec Ideal S2x32x128x128x16 .f32) (ix5 b c l s k) = acs I b c l k - acs I b c s k := by
  simp only [hostOps0_10]
  after_reads_simp
  pointwise
  rw [h, h]

theorem c10_v68 (h : ∀ l s : Fin 128, (V (Proc.devRef .tc main_v62) : IVec S128x128 1) (ix2 l s) = if s.val ≤ l.val then 1#1 else 0#1) (l s : Fin 128) :
    (after hostOps0_10 V (Proc.devRef .tc main_v68) : IVec S1x1x128x128x1 1) (ix5 0 0 l s 0) = if s.val ≤ l.val then 1#1 else 0#1 := by
  simp only [hostOps0_10]
  after_reads_simp
  pointwise
  rw [h]

theorem c10_cst : after hostOps0_10 V (Proc.devRef .tc main_cst) = constant (F := Ideal) S_ .f32 0xFF800000#32 := by
  simp only [hostOps0_10]
  after_reads_simp

theorem c11_v69 (hc : V (Proc.devRef .tc main_cst) = constant (F := Ideal) S_ .f32 0xFF800000#32)
    (h : ∀ l s : Fin 128, (V (Proc.devRef .tc main_v68) : IVec S1x1x128x128x1 1) (ix5 0 0 l s 0) = if s.val ≤ l.val then 1#1 else 0#1)
    (hs : ∀ (b : Fin 2) (c : Fin 32) (l s : Fin 128) (k : Fin 16), (V (Proc.devRef .tc main_v67) : FVec Ideal S2x32x128x128x16 .f32) (ix5 b c l s k) = acs I b c l k - acs I b c s k)
    (b : Fin 2) (c : Fin 32) (l s : Fin 128) (k : Fin 16) :
    (after hostOps0_11 V (Proc.devRef .tc main_v69) : FVec Ideal S2x32x128x128x16 .f32) (ix5 b c l s k) = if s.val ≤ l.val then acs I b c l k - acs I b c s k else low := by
  simp only [hostOps0_11]
  after_reads_simp
  simp only [StableHlo.TRef.ofBuf, StableHlo.TRef.toBuf, cast_eq]
  rw [hc]
  pointwise
  rw [h, hs]
  by_cases hc' : s.val ≤ l.val
  · rw [if_pos hc', if_pos hc']
    exact if_pos rfl
  · rw [if_neg hc', if_neg hc']
    exact if_neg (by decide)

variable (h59 : ∀ (b : Fin 2) (c : Fin 32) (l : Fin 128) (g : Fin 2) (n : Fin 128), (V (Proc.devRef .tc main_v59) : FVec Ideal S2x32x128x2x128 .f32) (ix5 b c l g n) = xb I b (c * 128 + l) (1024 + (g * 128 + n)))
variable (h60 : ∀ (b : Fin 2) (c : Fin 32) (l : Fin 128) (g : Fin 2) (n : Fin 128), (V (Proc.devRef .tc main_v60) : FVec Ideal S2x32x128x2x128 .f32) (ix5 b c l g n) = xb I b (c * 128 + l) (1280 + (g * 128 + n)))
variable (h58 : ∀ (b : Fin 2) (c : Fin 32) (l : Fin 128) (k : Fin 16), (V (Proc.devRef .tc main_v58) : FVec Ideal S2x32x128x16 .f32) (ix4 b c l k) = acs I b c l k)
variable (h69 : ∀ (b : Fin 2) (c : Fin 32) (l s : Fin 128) (k : Fin 16), (V (Proc.devRef .tc main_v69) : FVec Ideal S2x32x128x128x16 .f32) (ix5 b c l s k) = if s.val ≤ l.val then acs I b c l k - acs I b c s k else low)
variable (h53 : ∀ (b : Fin 2) (c : Fin 32) (l : Fin 128) (k : Fin 16) (p : Fin 64), (V (Proc.devRef .tc main_v53) : FVec Ideal S2x32x128x16x64 .f32) (ix5 b c l k p) = xdt I b (c * 128 + l) k p)

include h59 h60 h69 h53 in
theorem c12_v77 (b : Fin 2) (c : Fin 32) (l : Fin 128) (k : Fin 16) (p : Fin 64) :
    (after hostOps0_12 V (Proc.devRef .tc main_v77) : FVec Ideal S2x32x128x16x64 .f32) (ix5 b c l k p) = yd I b c l k p := by
  simp only [hostOps0_12]
  after_reads_simp
  pointwise
  unfold yd cbm dec
  refine sum_eq fun s => ?_
  rw [h53, h69, mul_comm]
  exact congrArg (fun z : EReal => z * Ideal.exp (if s.val ≤ l.val then acs I b c l k - acs I b c s k else low) * xdt I b (c * 128 + s) k p)
    (cb_eq _ _ h59 h60 b c l s ⟨k.val / 8, by omega⟩)

include h60 in
theorem c12_v81 (b : Fin 2) (c : Fin 32) (l : Fin 128) (k : Fin 16) (n : Fin 128) :
    (after hostOps0_12 V (Proc.devRef .tc main_v81) : FVec Ideal S2x32x128x16x128 .f32) (ix5 b c l k n) = xb I b (c * 128 + l) (1280 + (k.val / 8 * 128 + n)) := by
  simp only [hostOps0_12]
  after_reads_simp
  pointwise
  exact h60 _ _ _ _ _

include h53 h58 h59 in
theorem c12_s (c : Fin 32) (b : Fin 2) (k : Fin 16) (p : Fin 64) (n : Fin 128) :
    (after hostOps0_12 V (Proc.devRef .tc main_v97_0) : FVec Ideal S32x2x16x64x128 .f32) (ix5 c b k p n) = add I b c k p n := by
  simp only [hostOps0_12]
  after_reads_simp
  simp only [id]
  pointwise
  unfold add
  refine sum_eq fun l => ?_
  rw [h53, h58, h58, h59]
  exact mul_comm _ _

include h58 in
theorem c12_d (c : Fin 32) (b : Fin 2) (k : Fin 16) :
    (after hostOps0_12 V (Proc.devRef .tc main_v97_1) : FVec Ideal S32x2x16 .f32) (ix3 c b k) = Ideal.exp (acs I b c 127 k) := by
  simp only [hostOps0_12]
  after_reads_simp
  simp only [id]
  pointwise
  rw [h58]
  rfl

theorem c12_z (b : Fin 2) (k : Fin 16) (p : Fin 64) (n : Fin 128) :
    (after hostOps0_12 V (Proc.devRef .tc main_v97_3) : FVec Ideal S2x16x64x128 .f32) (ix4 b k p n) = (0 : EReal) := by
  simp only [hostOps0_12]
  after_reads_simp
  simp only [id]
  pointwise

end Cert.ReferenceIdeal.Ssd
-- ==== Proof.RefC.lean ====
/-
  The reference after its scan: the part of the output that comes from the carried state, the skip term, the gate and the norm.
-/
module

public import proofs.«01_k».proof.Proof.Gen.ReferenceIdeal.Run
public import proofs.«01_k».proof.Proof.RefB
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.ReferenceIdeal.Ssd

open Cert.ReferenceIdeal Cert.ReferenceIdeal.Gen _root_.Ssd StableHlo

variable {I : Inp} (V : Valuation τ sig (Elt Ideal))

set_option maxHeartbeats 1000000

/-- The three parts of an output entry, each replaced by an equal one. -/
theorem row_parts {a a' s s' e e' x x' d d' : EReal} (ha : a = a') (hs : s = s') (he : e = e') (hx : x = x') (hd : d = d') :
    a + s * Ideal.exp e + x * d = a' + s' * Ideal.exp e' + x' * d' := by
  subst ha hs he hx hd
  rfl

/-- What the carried state gives to a row, with the factors in the reference's order. -/
theorem carried_eq (A : FVec Ideal S32x2x16x64x128 .f32) (B : FVec Ideal S2x32x128x16x128 .f32)
    (hA : ∀ (c : Fin 32) (b : Fin 2) (k : Fin 16) (p : Fin 64) (n : Fin 128), A (ix5 c b k p n) = st I b c k p n)
    (hB : ∀ (b : Fin 2) (c : Fin 32) (l : Fin 128) (k : Fin 16) (n : Fin 128), B (ix5 b c l k n) = xb I b (c * 128 + l) (1280 + (k.val / 8 * 128 + n)))
    (b : Fin 2) (c : Fin 32) (l : Fin 128) (k : Fin 16) (p : Fin 64) :
    (∑ n : Fin 128, (A (ix5 c b k p n) : EReal) * (B (ix5 b c l k n) : EReal))
      = ∑ n : Fin 128, xb I b (c * 128 + l) (1280 + (k.val / 8 * 128 + n.val)) * st I b c k p n.val :=
  sum_eq fun n => by
    rw [hA, hB]
    exact mul_comm _ _

theorem c13_v112 (h97 : ∀ (c : Fin 32) (b : Fin 2) (k : Fin 16) (p : Fin 64) (n : Fin 128), (V (Proc.devRef .tc main_v97_4) : FVec Ideal S32x2x16x64x128 .f32) (ix5 c b k p n) = st I b c k p n)
    (h81 : ∀ (b : Fin 2) (c : Fin 32) (l : Fin 128) (k : Fin 16) (n : Fin 128), (V (Proc.devRef .tc main_v81) : FVec Ideal S2x32x128x16x128 .f32) (ix5 b c l k n) = xb I b (c * 128 + l) (1280 + (k.val / 8 * 128 + n)))
    (h58 : ∀ (b : Fin 2) (c : Fin 32) (l : Fin 128) (k : Fin 16), (V (Proc.devRef .tc main_v58) : FVec Ideal S2x32x128x16 .f32) (ix4 b c l k) = acs I b c l k)
    (h77 : ∀ (b : Fin 2) (c : Fin 32) (l : Fin 128) (k : Fin 16) (p : Fin 64), (V (Proc.devRef .tc main_v77) : FVec Ideal S2x32x128x16x64 .f32) (ix5 b c l k p) = yd I b c l k p)
    (h41 : ∀ (b : Fin 2) (i : Fin 4096) (k : Fin 16) (p : Fin 64), (V (Proc.devRef .tc main_v41) : FVec Ideal S2x4096x16x64 .f32) (ix4 b i k p) = xb I b i (k * 64 + p))
    (h6 : ∀ k : Fin 16, (V (Proc.devRef .tc main_arg6) : FVec Ideal S16 .f32) (ix1 k) = I.dk k)
    (b : Fin 2) (i : Fin 4096) (j : Fin 1024) :
    (after hostOps0_13 V (Proc.devRef .tc main_v112) : FVec Ideal S2x4096x1024 .f32) (ix3 b i j)
      = yd I b (i.val / 128) (i.val % 128) (j.val / 64) (j.val % 64) + yo I b (i.val / 128) (i.val % 128) (j.val / 64) (j.val % 64) + xb I b i j * I.dk (j.val / 64) := by
  simp only [hostOps0_13]
  after_reads_simp
  pointwise
  have hi := i.isLt
  have hj := j.isLt
  have ej : j.val / 64 * 64 + j.val % 64 = j.val := by omega
  exact row_parts (h77 b ⟨i.val / 128, by omega⟩ ⟨i.val % 128, by omega⟩ ⟨j.val / 64, by omega⟩ ⟨j.val % 64, by omega⟩)
    (carried_eq _ _ h97 h81 b ⟨i.val / 128, by omega⟩ ⟨i.val % 128, by omega⟩ ⟨j.val / 64, by omega⟩ ⟨j.val % 64, by omega⟩)
    (h58 b ⟨i.val / 128, by omega⟩ ⟨i.val % 128, by omega⟩ ⟨j.val / 64, by omega⟩)
    ((h41 b i ⟨j.val / 64, by omega⟩ ⟨j.val % 64, by omega⟩).trans (congrArg (xb I b i) ej))
    (h6 ⟨j.val / 64, by omega⟩)

theorem c14_v113 (h1 : ∀ (b : Fin 2) (i : Fin 4096) (j : Fin 1024), (V (Proc.devRef .tc main_v1) : FVec Ideal S2x4096x1024 .f32) (ix3 b i j) = I.za (b * 4096 + i) j)
    (b : Fin 2) (i : Fin 4096) (j : Fin 1024) :
    (after hostOps0_14 V (Proc.devRef .tc main_v113) : FVec Ideal S2x4096x1024 .f32) (ix3 b i j) = I.za (b * 4096 + i) j * sg (I.za (b * 4096 + i) j) := by
  simp only [hostOps0_14]
  after_reads_simp
  simp only [StableHlo.TRef.ofBuf, StableHlo.TRef.toBuf, cast_eq]
  pointwise
  rw [h1]
  rfl

theorem c15_v129 (y z : ℕ → ℕ → ℕ → EReal) (h112 : ∀ (b : Fin 2) (i : Fin 4096) (j : Fin 1024), (V (Proc.devRef .tc main_v112) : FVec Ideal S2x4096x1024 .f32) (ix3 b i j) = y b i j)
    (h113 : ∀ (b : Fin 2) (i : Fin 4096) (j : Fin 1024), (V (Proc.devRef .tc main_v113) : FVec Ideal S2x4096x1024 .f32) (ix3 b i j) = z b i j)
    (h7 : ∀ j : Fin 1024, (V (Proc.devRef .tc main_arg7) : FVec Ideal S1024 .f32) (ix1 j) = I.nw j)
    (i : Fin 8192) (j : Fin 1024) :
    (after hostOps0_15 V (Proc.devRef .tc main_v129) : FVec Ideal S8192x1024 .bf16) (ix2 i j)
      = y (i.val / 4096) (i.val % 4096) j * z (i.val / 4096) (i.val % 4096) j
        * Ideal.rsqrt (Ideal.div (∑ x : Fin 1024, y (i.val / 4096) (i.val % 4096) x * z (i.val / 4096) (i.val % 4096) x
            * (y (i.val / 4096) (i.val % 4096) x * z (i.val / 4096) (i.val % 4096) x)) (Ideal.ofBits .f32 0x44800000#32) + Ideal.ofBits .f32 0x3727C5AC#32) * I.nw j := by
  simp only [hostOps0_15]
  after_reads_simp
  pointwise
  simp only [h112, h113, h7]

end Cert.ReferenceIdeal.Ssd
-- ==== Proof.RefCum.lean ====
/-
  A running sum down the rows of a chunk, as the host prints it: a window of 128 rows padded 127 low.
-/
module

public import proofs.«01_k».proof.Proof.Gen.ReferenceIdeal.Run
public import proofs.«01_k».proof.Proof.SsdSpec
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.ReferenceIdeal.Ssd

open Cert.ReferenceIdeal Cert.ReferenceIdeal.Gen _root_.Ssd StableHlo

/-- Adding up a list of extended reals from zero, over all positions of a finite type. -/
theorem foldl_add_all {N : ℕ} (g : Fin N → EReal) : (List.finRange N).foldl (fun r n => r + g n) 0 = ∑ n : Fin N, g n := by
  rw [← List.ofFn_id, ← List.foldl_map (f := g) (g := fun r y => r + y), List.map_ofFn, ← List.sum_eq_foldl, List.sum_ofFn]
  rfl

/-- A window that ends at row `l` and runs over 128 positions meets the rows up to `l`. -/
theorem window_sum (l : Fin 128) (f : ℕ → EReal) :
    (∑ n : Fin 128, if 127 ≤ l.val + n.val then f (l.val + n.val - 127) else 0) = ∑ k : Fin 128, if k.val ≤ l.val then f k.val else 0 := by
  rw [← Finset.sum_filter, ← Finset.sum_filter]
  refine Finset.sum_bij' (fun n _ => (⟨(l.val + n.val - 127) % 128, Nat.mod_lt _ (by norm_num)⟩ : Fin 128)) (fun k _ => (⟨(k.val + 127 - l.val) % 128, Nat.mod_lt _ (by norm_num)⟩ : Fin 128))
    ?_ ?_ ?_ ?_ ?_
  · intro n hn
    rw [Finset.mem_filter] at hn ⊢
    exact ⟨Finset.mem_univ _, by show (l.val + n.val - 127) % 128 ≤ l.val; omega⟩
  · intro k hk
    rw [Finset.mem_filter] at hk ⊢
    exact ⟨Finset.mem_univ _, by show 127 ≤ l.val + (k.val + 127 - l.val) % 128; omega⟩
  · intro n hn
    rw [Finset.mem_filter] at hn
    refine Fin.ext ?_
    show ((l.val + n.val - 127) % 128 + 127 - l.val) % 128 = n.val
    omega
  · intro k hk
    rw [Finset.mem_filter] at hk
    refine Fin.ext ?_
    show (l.val + (k.val + 127 - l.val) % 128 - 127) % 128 = k.val
    omega
  · intro n hn
    rw [Finset.mem_filter] at hn
    refine congrArg f ?_
    show l.val + n.val - 127 = (l.val + n.val - 127) % 128
    omega

/-- The window's shape. -/
abbrev Wn : Shape := ⟨4, ![1, 1, 128, 1]⟩

theorem numel_Wn : Wn.numel = 128 := by decide

/-- The coordinates of a position of the window. -/
theorem coords_Wn (n : Fin Wn.numel) :
    (Wn.rowMajor.symm n 0).val = 0 ∧ (Wn.rowMajor.symm n 1).val = 0 ∧ (Wn.rowMajor.symm n 2).val = n.val ∧ (Wn.rowMajor.symm n 3).val = 0 := by
  have e := Shape.rowMajor_val_four (d := ![1, 1, 128, 1]) (Wn.rowMajor.symm n)
  rw [Equiv.apply_symm_apply] at e
  have h0 : (Wn.rowMajor.symm n 0).val < 1 := (Wn.rowMajor.symm n 0).isLt
  have h1 : (Wn.rowMajor.symm n 1).val < 1 := (Wn.rowMajor.symm n 1).isLt
  have h3 : (Wn.rowMajor.symm n 3).val < 1 := (Wn.rowMajor.symm n 3).isLt
  change n.val = ((((Wn.rowMajor.symm n 0).val * 1 + (Wn.rowMajor.symm n 1).val) * 128 + (Wn.rowMajor.symm n 2).val) * 1 + (Wn.rowMajor.symm n 3).val) at e
  omega

/-- The running sum at row `l` of a chunk. -/
theorem cumsum_at (x : FVec Ideal S2x32x128x16 .f32) (v : FVec Ideal S_ .f32) (hv : v ix0 = (0 : EReal)) (h : S2x32x128x16.ReduceWindows (![1, 1, 128, 1] : Fin 4 → ℕ) ![1, 1, 1, 1] ![0, 0, 127, 0] ![0, 0, 0, 0] S2x32x128x16)
    (hu : 0 < S_.numel) (b : Fin 2) (c : Fin 32) (l : Fin 128) (k : Fin 16) :
    Host.reduceWindowAdd (F := Ideal) ![1, 1, 128, 1] ![1, 1, 1, 1] ![0, 0, 127, 0] ![0, 0, 0, 0] x v h hu (ix4 b c l k)
      = ∑ r : Fin 128, if r.val ≤ l.val then (x (ix4 b c r k) : EReal) else 0 := by
  have hv' : v (Shape.Idx.first hu) = (0 : EReal) := (congrArg v (Idealize.ShloMosaic.ValueIdx.eq_ix0 _)).trans hv
  unfold Host.reduceWindowAdd
  rw [Ideal.hostReduceWindowAdd_def, hv']
  unfold Ideal.hostReduceWindowAdd Host.reduceWindow
  refine (foldl_add_all _).trans ?_
  have e1 : (∑ r : Fin 128, if r.val ≤ l.val then (x (ix4 b c r k) : EReal) else 0)
      = ∑ r : Fin 128, if r.val ≤ l.val then (fun n : ℕ => if hn : n < 128 then (x (ix4 b c ⟨n, hn⟩ k) : EReal) else 0) r.val else 0 :=
    Finset.sum_congr rfl fun r _ => by
      show _ = if r.val ≤ l.val then (if hn : r.val < 128 then (x (ix4 b c ⟨r.val, hn⟩ k) : EReal) else 0) else 0
      rw [dif_pos r.isLt]
  refine Eq.trans ?_ ((window_sum l (fun n : ℕ => if hn : n < 128 then (x (ix4 b c ⟨n, hn⟩ k) : EReal) else 0)).trans e1.symm)
  refine Fintype.sum_equiv (finCongr numel_Wn) _ _ fun n => ?_
  obtain ⟨w0, w1, w2, w3⟩ := coords_Wn n
  have hb := b.isLt
  have hc := c.isLt
  have hk := k.isLt
  have hl := l.isLt
  have hn : n.val < 128 := lt_of_lt_of_eq n.isLt numel_Wn
  by_cases hin : 127 ≤ l.val + n.val
  · rw [dif_pos, if_pos (show 127 ≤ l.val + (finCongr numel_Wn n).val from hin)]
    swap
    · intro a
      match a with
      | ⟨0, _⟩ => show 0 ≤ b.val * 1 + (Wn.rowMajor.symm n 0).val ∧ b.val * 1 + (Wn.rowMajor.symm n 0).val - 0 < 2; omega
      | ⟨1, _⟩ => show 0 ≤ c.val * 1 + (Wn.rowMajor.symm n 1).val ∧ c.val * 1 + (Wn.rowMajor.symm n 1).val - 0 < 32; omega
      | ⟨2, _⟩ => show 127 ≤ l.val * 1 + (Wn.rowMajor.symm n 2).val ∧ l.val * 1 + (Wn.rowMajor.symm n 2).val - 127 < 128; omega
      | ⟨3, _⟩ => show 0 ≤ k.val * 1 + (Wn.rowMajor.symm n 3).val ∧ k.val * 1 + (Wn.rowMajor.symm n 3).val - 0 < 16; omega
    · show _ = if hn : l.val + n.val - 127 < 128 then (x (ix4 b c ⟨l.val + n.val - 127, hn⟩ k) : EReal) else 0
      rw [dif_pos (by omega)]
      refine congrArg x (funext fun a => Fin.ext ?_)
      match a with
      | ⟨0, _⟩ => show b.val * 1 + (Wn.rowMajor.symm n 0).val - 0 = b.val; omega
      | ⟨1, _⟩ => show c.val * 1 + (Wn.rowMajor.symm n 1).val - 0 = c.val; omega
      | ⟨2, _⟩ => show l.val * 1 + (Wn.rowMajor.symm n 2).val - 127 = l.val + n.val - 127; omega
      | ⟨3, _⟩ => show k.val * 1 + (Wn.rowMajor.symm n 3).val - 0 = k.val; omega
  · rw [dif_neg, if_neg (show ¬ 127 ≤ l.val + (finCongr numel_Wn n).val from hin)]
    intro hall
    have q : 127 ≤ l.val * 1 + (Wn.rowMajor.symm n 2).val := (hall (2 : Fin 4)).1
    omega

theorem c7_v58 {I : Inp} (V : Valuation τ sig (Elt Ideal)) (h : ∀ (b : Fin 2) (c : Fin 32) (l : Fin 128) (k : Fin 16),
      (V (Proc.devRef .tc main_v57) : FVec Ideal S2x32x128x16 .f32) (ix4 b c l k) = dt I b (c * 128 + l) k * -(Ideal.exp (I.al k)))
    (b : Fin 2) (c : Fin 32) (l : Fin 128) (k : Fin 16) :
    (after hostOps0_7 V (Proc.devRef .tc main_v58) : FVec Ideal S2x32x128x16 .f32) (ix4 b c l k) = acs I b c l k := by
  simp only [hostOps0_7]
  after_reads_simp
  simp only [StableHlo.TRef.ofBuf, StableHlo.TRef.toBuf, cast_eq]
  refine (cumsum_at (V (Proc.devRef .tc main_v57)) _ ?_ _ _ b c l k).trans ?_
  · pointwise
  · exact Finset.sum_congr rfl fun r _ => by rw [h]

end Cert.ReferenceIdeal.Ssd
-- ==== Proof.RefLoop.lean ====
/-
  One trip of the reference's scan over chunks, and the scan.
-/
module

public import proofs.«01_k».proof.Proof.Gen.ReferenceIdeal.Run
public import proofs.«01_k».proof.Proof.SsdSpec
public import Idealize.ShloMosaic.Lib.Pointwise
public import Idealize.ShloMosaic.Lib.Claim
public import Idealize.ShloMosaic.Lib.DynamicIndex
public import Idealize.ShloMosaic.Lib.Pipeline.Value
public import Idealize.ShloMosaic.Lib.StableHlo.RunRead

@[expose] public section

set_option maxRecDepth 16384

noncomputable section

open Idealize.ShloMosaic Idealize.ShloMosaic.TcCoe Idealize.SL.Sem

namespace Cert.ReferenceIdeal.Ssd

open Cert.ReferenceIdeal Cert.ReferenceIdeal.Gen Cert.ReferenceIdeal.Value _root_.Ssd StableHlo

variable {I : Inp} (V : Valuation τ sig (Elt Ideal))

theorem fits3 {k : ℕ} (hk : k < 32) : S32x2x16.Slices ![k, 0, 0] S1x2x16 :=
  ⟨rfl, fun a => match a with
    | ⟨0, _⟩ => show k + 1 ≤ 32 by omega
    | ⟨1, _⟩ => show 0 + 2 ≤ 2 by omega
    | ⟨2, _⟩ => show 0 + 16 ≤ 16 by omega⟩

theorem fits5 {k : ℕ} (hk : k < 32) : S32x2x16x64x128.Slices ![k, 0, 0, 0, 0] S1x2x16x64x128 :=
  ⟨rfl, fun a => match a with
    | ⟨0, _⟩ => show k + 1 ≤ 32 by omega
    | ⟨1, _⟩ => show 0 + 2 ≤ 2 by omega
    | ⟨2, _⟩ => show 0 + 16 ≤ 16 by omega
    | ⟨3, _⟩ => show 0 + 64 ≤ 64 by omega
    | ⟨4, _⟩ => show 0 + 128 ≤ 128 by omega⟩

theorem start3 {k : ℕ} (hk : k < 32) (a : Fin 3) :
    BitVec.toInt ((![fun _ => BitVec.ofNat 32 k, constantI S_ 32 0#32, constantI S_ 32 0#32] : Fin 3 → IVec S_ 32) a (Shape.Idx.first h_S_)) = ((![k, 0, 0] : Fin 3 → ℕ) a : ℤ) :=
  match a with
  | ⟨0, _⟩ => toInt_ofNat_of_lt (by omega)
  | ⟨1, _⟩ => rfl
  | ⟨2, _⟩ => rfl

theorem start5 {k : ℕ} (hk : k < 32) (a : Fin 5) :
    BitVec.toInt ((![fun _ => BitVec.ofNat 32 k, constantI S_ 32 0#32, constantI S_ 32 0#32, constantI S_ 32 0#32, constantI S_ 32 0#32] : Fin 5 → IVec S_ 32) a (Shape.Idx.first h_S_))
      = ((![k, 0, 0, 0, 0] : Fin 5 → ℕ) a : ℤ) :=
  match a with
  | ⟨0, _⟩ => toInt_ofNat_of_lt (by omega)
  | ⟨1, _⟩ => rfl
  | ⟨2, _⟩ => rfl
  | ⟨3, _⟩ => rfl
  | ⟨4, _⟩ => rfl

theorem clamp5 {k : ℕ} (hk : k < 32) (a : Fin 5) :
    (min (max (BitVec.toInt ((![fun _ => BitVec.ofNat 32 k, constantI S_ 32 0#32, constantI S_ 32 0#32, constantI S_ 32 0#32, constantI S_ 32 0#32] : Fin 5 → IVec S_ 32) a (Shape.Idx.first h_S_))) 0)
      ((S32x2x16x64x128.size a - S1x2x16x64x128.size a : ℕ) : ℤ)).toNat = (![k, 0, 0, 0, 0] : Fin 5 → ℕ) a := by
  rw [start5 hk a]
  match a with
  | ⟨0, _⟩ =>
    show (min (max (k : ℤ) 0) ((32 - 1 : ℕ) : ℤ)).toNat = k
    omega
  | ⟨1, _⟩ => rfl
  | ⟨2, _⟩ => rfl
  | ⟨3, _⟩ => rfl
  | ⟨4, _⟩ => rfl

/-- One trip's new state. -/
theorem trip_state (k : ℕ) (hk : k < 32) (hctr : V (Proc.devRef .tc main_v97_2) = fun _ => BitVec.ofNat 32 k)
    (hs : ∀ (c : Fin 32) (b : Fin 2) (h : Fin 16) (p : Fin 64) (n : Fin 128), (V (Proc.devRef .tc main_v97_0) : FVec Ideal S32x2x16x64x128 .f32) (ix5 c b h p n) = add I b c h p n)
    (hd : ∀ (c : Fin 32) (b : Fin 2) (h : Fin 16), (V (Proc.devRef .tc main_v97_1) : FVec Ideal S32x2x16 .f32) (ix3 c b h) = Ideal.exp (acs I b c 127 h))
    (h3 : ∀ (b : Fin 2) (h : Fin 16) (p : Fin 64) (n : Fin 128), (V (Proc.devRef .tc main_v97_3) : FVec Ideal S2x16x64x128 .f32) (ix4 b h p n) = st I b k h p n)
    (b : Fin 2) (h : Fin 16) (p : Fin 64) (n : Fin 128) :
    (afterL bodyI V (Proc.devRef .tc main_v97_3) : FVec Ideal S2x16x64x128 .f32) (ix4 b h p n) = st I b (k + 1) h p n := by
  rw [trip_main_v97_3, hctr]
  simp only [id]
  rw [Host.dynamicSlice_eq_extractStridedSlice S1x2x16 _ _ ![k, 0, 0] _ (fits3 hk) (start3 hk),
    Host.dynamicSlice_eq_extractStridedSlice S1x2x16x64x128 _ _ ![k, 0, 0, 0, 0] _ (fits5 hk) (start5 hk)]
  pointwise
  rw [h3, hd, hs]
  rfl

/-- One trip's record of the state it started from. -/
theorem trip_record (k : ℕ) (hk : k < 32) (hctr : V (Proc.devRef .tc main_v97_2) = fun _ => BitVec.ofNat 32 k)
    (h3 : ∀ (b : Fin 2) (h : Fin 16) (p : Fin 64) (n : Fin 128), (V (Proc.devRef .tc main_v97_3) : FVec Ideal S2x16x64x128 .f32) (ix4 b h p n) = st I b k h p n)
    (h4 : ∀ (c : Fin 32) (b : Fin 2) (h : Fin 16) (p : Fin 64) (n : Fin 128), c.val < k → (V (Proc.devRef .tc main_v97_4) : FVec Ideal S32x2x16x64x128 .f32) (ix5 c b h p n) = st I b c h p n)
    (c : Fin 32) (b : Fin 2) (h : Fin 16) (p : Fin 64) (n : Fin 128) (hc : c.val < k + 1) :
    (afterL bodyI V (Proc.devRef .tc main_v97_4) : FVec Ideal S32x2x16x64x128 .f32) (ix5 c b h p n) = st I b c h p n := by
  rw [trip_main_v97_4, hctr]
  simp only [id]
  refine (congrFun (Host.dynamicUpdateSlice_eq_updateSlice (s := S32x2x16x64x128) (u := S1x2x16x64x128) _ _ _ _ ![k, 0, 0, 0, 0] (clamp5 hk) (fits5 hk)) _).trans ?_
  pointwise
  by_cases hq : k ≤ c.val ∧ c.val < k + 1
  · rw [dif_pos hq, h3]
    exact congrArg (fun q : ℕ => st I b q h p n) (by omega)
  · rw [dif_neg hq]
    exact h4 c b h p n (by omega)

/-- What the contents hold before trip `k`. -/
structure Before (I : Inp) (k : ℕ) (V : Valuation τ sig (Elt Ideal)) : Prop where
  hs : ∀ (c : Fin 32) (b : Fin 2) (h : Fin 16) (p : Fin 64) (n : Fin 128), (V (Proc.devRef .tc main_v97_0) : FVec Ideal S32x2x16x64x128 .f32) (ix5 c b h p n) = add I b c h p n
  hd : ∀ (c : Fin 32) (b : Fin 2) (h : Fin 16), (V (Proc.devRef .tc main_v97_1) : FVec Ideal S32x2x16 .f32) (ix3 c b h) = Ideal.exp (acs I b c 127 h)
  h3 : ∀ (b : Fin 2) (h : Fin 16) (p : Fin 64) (n : Fin 128), (V (Proc.devRef .tc main_v97_3) : FVec Ideal S2x16x64x128 .f32) (ix4 b h p n) = st I b k h p n
  h4 : ∀ (c : Fin 32) (b : Fin 2) (h : Fin 16) (p : Fin 64) (n : Fin 128), c.val < k → (V (Proc.devRef .tc main_v97_4) : FVec Ideal S32x2x16x64x128 .f32) (ix5 c b h p n) = st I b c h p n

theorem Before.agree {k : ℕ} {V V' : Valuation τ sig (Elt Ideal)} (h : Agree V' V) (hb : Before I k V) : Before I k V' where
  hs := by rw [h main_v97_0 (by decide)]; exact hb.hs
  hd := by rw [h main_v97_1 (by decide)]; exact hb.hd
  h3 := by rw [h main_v97_3 (by decide)]; exact hb.h3
  h4 := by rw [h main_v97_4 (by decide)]; exact hb.h4

/-- The counter at trip `k`, as a word. -/
theorem iv_word (k : ℕ) : Scf.iv 0#32 1#32 k = BitVec.ofNat 32 k := by
  rw [Scf.iv_eq_ofInt]
  show BitVec.ofInt 32 (0 + (k : ℤ) * 1) = _
  rw [zero_add, mul_one, BitVec.ofInt_natCast]

/-- The scan's contents before every trip, and after the last. -/
theorem scan_at (m : (ℓ : Loc nD τ sig) → Buf (Elt Ideal) ℓ) (d : Dev nD) (h0 : Before I 0 (entryContents preI m d)) : ∀ k, k ≤ 32 → Before I k (atK m k d)
  | 0, _ => h0
  | k + 1, hk => by
    have hb := (scan_at m d h0 k (by omega)).agree (cond_keeps (atK m k d))
    have hctr : after condOps (atK m k d) (Proc.devRef .tc main_v97_2) = fun _ => BitVec.ofNat 32 k := by
      rw [ctr_cond, atK_ctr, iv_word]
    show Before I (k + 1) (afterL bodyI (after condOps (atK m k d)))
    exact ⟨by rw [trip_main_v97_0]; exact hb.hs, by rw [trip_main_v97_1]; exact hb.hd, trip_state _ k (by omega) hctr hb.hs hb.hd hb.h3,
      trip_record _ k (by omega) hctr hb.h3 hb.h4⟩

end Cert.ReferenceIdeal.Ssd
-- ==== Proof.RefRun.lean ====
/-
  The reference's run: what it leaves in its result, and that it leaves its arguments alone.
-/
module

public import proofs.«01_k».proof.Proof.RefA
public import proofs.«01_k».proof.Proof.RefB
public import proofs.«01_k».proof.Proof.RefC
public import proofs.«01_k».proof.Proof.RefCum
public import proofs.«01_k».proof.Proof.RefLoop

@[expose] public section

set_option maxRecDepth 16384

noncomputable section

open Idealize.ShloMosaic Idealize.ShloMosaic.TcCoe Idealize.SL.Sem

namespace Cert.ReferenceIdeal.Ssd

open Cert.ReferenceIdeal Cert.ReferenceIdeal.Gen Cert.ReferenceIdeal.Value _root_.Ssd StableHlo

/-- What each stretch before the scan writes. -/
abbrev preW : List (List (Ref sig .tc)) :=
  [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W]

abbrev opsOf (k : ℕ) : List (HloOp τ sig (Elt Ideal)) := preI.getD k []
abbrev wOf (k : ℕ) : List (Ref sig .tc) := preW.getD k []

theorem writes_of (k : ℕ) : (opsOf k).Forall fun op => op.writes ⊆ ((wOf k).map (Proc.devRef (τ := τ) .tc)).toFinset :=
  match k with
  | 0 => hostOps0_writes
  | 1 => hostOps0_1_writes
  | 2 => hostOps0_2_writes
  | 3 => hostOps0_3_writes
  | 4 => hostOps0_4_writes
  | 5 => hostOps0_5_writes
  | 6 => hostOps0_6_writes
  | 7 => hostOps0_7_writes
  | 8 => hostOps0_8_writes
  | 9 => hostOps0_9_writes
  | 10 => hostOps0_10_writes
  | 11 => hostOps0_11_writes
  | 12 => hostOps0_12_writes
  | _ + 13 => trivial

/-- The contents after the first `k` stretches. -/
def E (V : Valuation τ sig (Elt Ideal)) : ℕ → Valuation τ sig (Elt Ideal)
  | 0 => V
  | k + 1 => after (opsOf k) (E V k)

/-- A buffer that the stretches from `i` on do not write keeps its contents over them. -/
theorem E_keep (V : Valuation τ sig (Elt Ideal)) (r : Ref sig .tc) (i : ℕ) : ∀ n, (∀ k : Fin n, r ∉ wOf (i + k.val)) → E V (i + n) (Proc.devRef .tc r) = E V i (Proc.devRef .tc r)
  | 0, _ => rfl
  | n + 1, h => (after_of_writes_sub (opsOf (i + n)) (E V (i + n)) (writes_of (i + n)) (h (Fin.last n))).trans (E_keep V r i n fun k => h k.castSucc)

/-- The arguments, as the functions `I` gives. -/
structure Args (I : Inp) (V : Valuation τ sig (Elt Ideal)) : Prop where
  za : ∀ (r : Fin 8192) (j : Fin 2560), (V (Proc.devRef .tc main_arg0) : FVec Ideal S8192x2560 .f32) (ix2 r j) = I.za r j
  sm : ∀ (r : Fin 8192) (j : Fin 128), (V (Proc.devRef .tc main_arg1) : FVec Ideal S8192x128 .f32) (ix2 r j) = I.sm r j
  cw : ∀ (k : Fin 4) (j : Fin 1536), (V (Proc.devRef .tc main_arg2) : FVec Ideal S4x1536 .f32) (ix2 k j) = I.cw k j
  cb : ∀ (j : Fin 1536), (V (Proc.devRef .tc main_arg3) : FVec Ideal S1536 .f32) (ix1 j) = I.cb j
  dtb : ∀ (k : Fin 16), (V (Proc.devRef .tc main_arg4) : FVec Ideal S16 .f32) (ix1 k) = I.dtb k
  al : ∀ (k : Fin 16), (V (Proc.devRef .tc main_arg5) : FVec Ideal S16 .f32) (ix1 k) = I.al k
  dk : ∀ (k : Fin 16), (V (Proc.devRef .tc main_arg6) : FVec Ideal S16 .f32) (ix1 k) = I.dk k
  nw : ∀ (j : Fin 1024), (V (Proc.devRef .tc main_arg7) : FVec Ideal S1024 .f32) (ix1 j) = I.nw j

/-- What the stretches after the scan read, besides the scan's record. -/
structure Rest (I : Inp) (V : Valuation τ sig (Elt Ideal)) : Prop where
  h81 : ∀ (b : Fin 2) (c : Fin 32) (l : Fin 128) (k : Fin 16) (n : Fin 128), (V (Proc.devRef .tc main_v81) : FVec Ideal S2x32x128x16x128 .f32) (ix5 b c l k n) = xb I b (c * 128 + l) (1280 + (k.val / 8 * 128 + n))
  h58 : ∀ (b : Fin 2) (c : Fin 32) (l : Fin 128) (k : Fin 16), (V (Proc.devRef .tc main_v58) : FVec Ideal S2x32x128x16 .f32) (ix4 b c l k) = acs I b c l k
  h77 : ∀ (b : Fin 2) (c : Fin 32) (l : Fin 128) (k : Fin 16) (p : Fin 64), (V (Proc.devRef .tc main_v77) : FVec Ideal S2x32x128x16x64 .f32) (ix5 b c l k p) = yd I b c l k p
  h41 : ∀ (b : Fin 2) (i : Fin 4096) (k : Fin 16) (p : Fin 64), (V (Proc.devRef .tc main_v41) : FVec Ideal S2x4096x16x64 .f32) (ix4 b i k p) = xb I b i (k * 64 + p)
  h1 : ∀ (b : Fin 2) (i : Fin 4096) (j : Fin 1024), (V (Proc.devRef .tc main_v1) : FVec Ideal S2x4096x1024 .f32) (ix3 b i j) = I.za (b * 4096 + i) j
  dk : ∀ (k : Fin 16), (V (Proc.devRef .tc main_arg6) : FVec Ideal S16 .f32) (ix1 k) = I.dk k
  nw : ∀ (j : Fin 1024), (V (Proc.devRef .tc main_arg7) : FVec Ideal S1024 .f32) (ix1 j) = I.nw j

/-- The stretches before the scan, run through. -/
theorem entry_facts {I : Inp} (V : Valuation τ sig (Elt Ideal)) (hA : Args I V) : Before I 0 (E V 13) ∧ Rest I (E V 13) := by
  have v1 := c0_v1 (E V 0) hA.za
  have v3 := c0_v3 (E V 0) hA.za
  have v5 := c0_v5 (E V 0) hA.sm
  have v6 := c1_v6 (E V 1) (c0_c (E V 0)) v3
  have v36 := c2_v36 (E V 2) v6 (by rw [E_keep V main_arg2 0 2 (by decide +kernel)]; exact hA.cw) (by rw [E_keep V main_arg3 0 2 (by decide +kernel)]; exact hA.cb)
  have v37 := c3_v37 (E V 3) v36
  have v41 := c4_v41 (E V 4) v37
  have v42 := c4_v42 (E V 4) v37
  have v43 := c4_v43 (E V 4) v37
  have v46 := c4_v46 (E V 4) (by rw [E_keep V main_v5 1 3 (by decide +kernel)]; exact v5) (by rw [E_keep V main_arg4 0 4 (by decide +kernel)]; exact hA.dtb)
  have v47 := c5_v47 (E V 5) v46
  have v53 := c6_v53 (E V 6) v47 (by rw [E_keep V main_v41 5 1 (by decide +kernel)]; exact v41)
  have v57 := c6_v57 (E V 6) v47 (by rw [E_keep V main_arg5 0 6 (by decide +kernel)]; exact hA.al)
  have v58 := c7_v58 (E V 7) v57
  have v59 := c8_v59 (E V 8) (by rw [E_keep V main_v42 5 3 (by decide +kernel)]; exact v42)
  have v60 := c8_v60 (E V 8) (by rw [E_keep V main_v43 5 3 (by decide +kernel)]; exact v43)
  have v62 := c9_v62 (E V 9) (c8_v61 (E V 8))
  have v67 := c10_v67 (E V 10) (by rw [E_keep V main_v58 8 2 (by decide +kernel)]; exact v58)
  have v68 := c10_v68 (E V 10) v62
  have v69 := c11_v69 (E V 11) (c10_cst (E V 10)) v68 v67
  have k59 := (congrArg (fun A : FVec Ideal S2x32x128x2x128 .f32 => ∀ (b : Fin 2) (c : Fin 32) (l : Fin 128) (g : Fin 2) (n : Fin 128), A (ix5 b c l g n) = xb I b (c * 128 + l) (1024 + (g * 128 + n))) (E_keep V main_v59 9 3 (by decide +kernel))).mpr v59
  have k60 := (congrArg (fun A : FVec Ideal S2x32x128x2x128 .f32 => ∀ (b : Fin 2) (c : Fin 32) (l : Fin 128) (g : Fin 2) (n : Fin 128), A (ix5 b c l g n) = xb I b (c * 128 + l) (1280 + (g * 128 + n))) (E_keep V main_v60 9 3 (by decide +kernel))).mpr v60
  have k58 := (congrArg (fun A : FVec Ideal S2x32x128x16 .f32 => ∀ (b : Fin 2) (c : Fin 32) (l : Fin 128) (k : Fin 16), A (ix4 b c l k) = acs I b c l k) (E_keep V main_v58 8 4 (by decide +kernel))).mpr v58
  have k53 := (congrArg (fun A : FVec Ideal S2x32x128x16x64 .f32 => ∀ (b : Fin 2) (c : Fin 32) (l : Fin 128) (k : Fin 16) (p : Fin 64), A (ix5 b c l k p) = xdt I b (c * 128 + l) k p) (E_keep V main_v53 7 5 (by decide +kernel))).mpr v53
  refine ⟨⟨c12_s (E V 12) k59 k58 k53, c12_d (E V 12) k58, c12_z (E V 12), fun c b h p n hc => absurd hc (Nat.not_lt_zero _)⟩, ⟨c12_v81 (E V 12) k60, ?_, c12_v77 (E V 12) k59 k60 v69 k53, ?_, ?_, ?_, ?_⟩⟩
  · rw [E_keep V main_v58 8 5 (by decide +kernel)]; exact v58
  · rw [E_keep V main_v41 5 8 (by decide +kernel)]; exact v41
  · rw [E_keep V main_v1 1 12 (by decide +kernel)]; exact v1
  · rw [E_keep V main_arg6 0 13 (by decide +kernel)]; exact hA.dk
  · rw [E_keep V main_arg7 0 13 (by decide +kernel)]; exact hA.nw

/-- What the scan writes. -/
abbrev loopW : List (Ref sig .tc) := condOps_W ++ (while0Ops0_W ++ (while0Ops0_1_W ++ (while0Ops0_2_W ++ (while0Ops0_3_W ++ while0Ops0_4_W))))

variable (m : (ℓ : Loc nD τ sig) → Buf (Elt Ideal) ℓ) (ρ : Dev nD → PrngReg) (d : Dev nD)

/-- The condition writes two temporaries. -/
theorem cond_keep (V : Valuation τ sig (Elt Ideal)) (r : Ref sig .tc) (h : r ∉ loopW) : after condOps V (Proc.devRef .tc r) = V (Proc.devRef .tc r) :=
  after_of_writes_sub condOps V condOps_writes fun q => h (List.mem_append_left _ q)

/-- A buffer that the scan does not write keeps its contents over it. -/
theorem scan_keep (r : Ref sig .tc) (h : r ∉ loopW) : ∀ k, atK m k d (Proc.devRef .tc r) = entryContents preI m d (Proc.devRef .tc r)
  | 0 => rfl
  | k + 1 => by
    refine Eq.trans ?_ (scan_keep r h k)
    simp only [loopW, List.mem_append, not_or] at h
    obtain ⟨hc, h0, h1, h2, h3, h4⟩ := h
    show afterL bodyI (after condOps (atK m k d)) _ = _
    simp only [bodyI, afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]

abbrev W13 : List (Ref sig .tc) := [main_v98, main_v99, main_v100, main_v101, main_v102, main_v103, main_v104, main_v105, main_v106, main_v107, main_v108, main_v109, main_v110, main_v111, main_v112]
theorem writes13 : (hostOps0_13 : List (HloOp τ sig (Elt Ideal))).Forall fun op => op.writes ⊆ (W13.map (Proc.devRef (τ := τ) .tc)).toFinset :=
  StableHlo.forall_writes_sub_of_map rfl
abbrev W14 : List (Ref sig .tc) := [main_call9_v0, main_call9_v1, main_call9_cst, main_call9_v2, main_call9_v3, main_call9_cst_0, main_call9_v4, main_call9_v5, main_v113]
theorem writes14 : (hostOps0_14 : List (HloOp τ sig (Elt Ideal))).Forall fun op => op.writes ⊆ (W14.map (Proc.devRef (τ := τ) .tc)).toFinset :=
  StableHlo.forall_writes_sub_of_map rfl
abbrev W15 : List (Ref sig .tc) := [main_v114, main_v115, main_cst_4, main_v116, main_v117, main_cst_5, main_v118, main_v119, main_cst_6, main_v120, main_v121, main_v122, main_v123, main_v124, main_v125, main_v126, main_v127, main_v128, main_v129]
theorem writes15 : (hostOps0_15 : List (HloOp τ sig (Elt Ideal))).Forall fun op => op.writes ⊆ (W15.map (Proc.devRef (τ := τ) .tc)).toFinset :=
  StableHlo.forall_writes_sub_of_map rfl

/-- The contents at the end, stretch by stretch. -/
theorem final_eq : finalContents condOps preI bodyI postI 32 m d = after hostOps0_15 (after hostOps0_14 (after hostOps0_13 (after condOps (atK m 32 d)))) := rfl

/-- The contents before the scan are those after thirteen stretches. -/
theorem entry_eq : entryContents preI m d = E (fun b => m (d, b)) 13 := rfl

/-- An argument ends as it began. -/
theorem arg_kept (r : Ref sig .tc) (h15 : r ∉ W15) (h14 : r ∉ W14) (h13 : r ∉ W13) (hl : r ∉ loopW) (hp : ∀ k : Fin 13, r ∉ wOf (0 + k.val)) :
    finalContents condOps preI bodyI postI 32 m d (Proc.devRef .tc r) = m (d, Proc.devRef .tc r) := by
  rw [final_eq, after_of_writes_sub hostOps0_15 _ writes15 h15, after_of_writes_sub hostOps0_14 _ writes14 h14, after_of_writes_sub hostOps0_13 _ writes13 h13,
    cond_keep _ r hl, scan_keep m d r hl, entry_eq]
  exact E_keep _ r 0 13 hp

/-- The result's entries. -/
theorem result_at {I : Inp} (hA : Args I (fun b => m (d, b))) (i : Fin 8192) (j : Fin 1024) :
    (finalContents condOps preI bodyI postI 32 m d (Proc.devRef .tc main_v129) : FVec Ideal S8192x1024 .bf16) (ix2 i j)
      = out I (i.val / 4096) (i.val / 128 % 32) (i.val % 128) j := by
  obtain ⟨hb, hr⟩ := entry_facts _ hA
  have hs := (scan_at m d hb 32 le_rfl).agree (cond_keeps (atK m 32 d))
  have keep : ∀ r : Ref sig .tc, r ∉ loopW → after condOps (atK m 32 d) (Proc.devRef .tc r) = E (fun b => m (d, b)) 13 (Proc.devRef .tc r) := fun r h =>
    (cond_keep _ r h).trans (scan_keep m d r h 32)
  have v112 := c13_v112 (after condOps (atK m 32 d)) (fun c b k p n => hs.h4 c b k p n c.isLt) (by rw [keep main_v81 (by decide +kernel)]; exact hr.h81)
    (by rw [keep main_v58 (by decide +kernel)]; exact hr.h58) (by rw [keep main_v77 (by decide +kernel)]; exact hr.h77)
    (by rw [keep main_v41 (by decide +kernel)]; exact hr.h41) (by rw [keep main_arg6 (by decide +kernel)]; exact hr.dk)
  have v113 := c14_v113 (after hostOps0_13 (after condOps (atK m 32 d)))
    (by rw [after_of_writes_sub hostOps0_13 _ writes13 (r := main_v1) (by decide +kernel), keep main_v1 (by decide +kernel)]; exact hr.h1)
  rw [final_eq]
  refine (c15_v129 _ (fun b i j => yd I b (i / 128) (i % 128) (j / 64) (j % 64) + yo I b (i / 128) (i % 128) (j / 64) (j % 64) + xb I b i j * I.dk (j / 64))
    (fun b i j => I.za (b * 4096 + i) j * sg (I.za (b * 4096 + i) j))
    (by rw [after_of_writes_sub hostOps0_14 _ writes14 (r := main_v112) (by decide +kernel)]; exact v112) v113
    (by rw [after_of_writes_sub hostOps0_14 _ writes14 (r := main_arg7) (by decide +kernel), after_of_writes_sub hostOps0_13 _ writes13 (r := main_arg7) (by decide +kernel),
          keep main_arg7 (by decide +kernel)]; exact hr.nw) i j).trans ?_
  have e1 : i.val % 4096 / 128 = i.val / 128 % 32 := by omega
  have e2 : i.val % 4096 % 128 = i.val % 128 := by omega
  have e3 : i.val / 128 % 32 * 128 + i.val % 128 = i.val % 4096 := by omega
  unfold out rs yg
  rw [e3]
  simp only [e1, e2]

/-- The run, read: the arguments as they were, and the result at the fold. -/
theorem run : θ_run defs (onTc (τ := τ) (main (F := Ideal))) ⟨m, fun _ => 0, ρ⟩ fun r => ∀ c : Dev nD,
      r.2.mem ((c.tc : Thread nD τ).loc main_v129) = finalContents condOps preI bodyI postI 32 m c (Proc.devRef .tc main_v129)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run_fold m ρ)
  have kept : ∀ b : Ref sig .tc, (Proc.devRef .tc b : DevRef τ sig).isScoped = false → b ∉ W15 → b ∉ W14 → b ∉ W13 → b ∉ loopW → (∀ k : Fin 13, b ∉ wOf (0 + k.val)) →
      r.2.mem ((c.tc : Thread nD τ).loc b) = m ((c.tc : Thread nD τ).loc b) := fun b hb h15 h14 h13 hl hp => (h c b hb).trans (arg_kept m c b h15 h14 h13 hl hp)
  exact ⟨h c main_v129 rfl,
    kept main_arg0 rfl (by decide +kernel) (by decide +kernel) (by decide +kernel) (by decide +kernel) (by decide +kernel),
    kept main_arg1 rfl (by decide +kernel) (by decide +kernel) (by decide +kernel) (by decide +kernel) (by decide +kernel),
    kept main_arg2 rfl (by decide +kernel) (by decide +kernel) (by decide +kernel) (by decide +kernel) (by decide +kernel),
    kept main_arg3 rfl (by decide +kernel) (by decide +kernel) (by decide +kernel) (by decide +kernel) (by decide +kernel),
    kept main_arg4 rfl (by decide +kernel) (by decide +kernel) (by decide +kernel) (by decide +kernel) (by decide +kernel),
    kept main_arg5 rfl (by decide +kernel) (by decide +kernel) (by decide +kernel) (by decide +kernel) (by decide +kernel),
    kept main_arg6 rfl (by decide +kernel) (by decide +kernel) (by decide +kernel) (by decide +kernel) (by decide +kernel),
    kept main_arg7 rfl (by decide +kernel) (by decide +kernel) (by decide +kernel) (by decide +kernel) (by decide +kernel)⟩

end Cert.ReferenceIdeal.Ssd
-- ==== Proof.Lin.lean ====
/-
  A matrix product's entries.
-/
module

public import Idealize.ShloMosaic.Lib.Pointwise

@[expose] public section

open Idealize.ShloMosaic

namespace Lin

/-- A row of `A` against a column of `B`. -/
noncomputable def dot {M K N : ℕ} (A : (⟨2, ![M, K]⟩ : Shape).Idx → EReal) (B : (⟨2, ![K, N]⟩ : Shape).Idx → EReal) (i : Fin M) (j : Fin N) : EReal :=
  ∑ k : Fin K, A (ix2 i k) * B (ix2 k j)

/-- Rows and columns that agree have the same product. -/
theorem dot_eq {M K N M' N' : ℕ} {A : (⟨2, ![M, K]⟩ : Shape).Idx → EReal} {B : (⟨2, ![K, N]⟩ : Shape).Idx → EReal}
    {A' : (⟨2, ![M', K]⟩ : Shape).Idx → EReal} {B' : (⟨2, ![K, N']⟩ : Shape).Idx → EReal} {i : Fin M} {j : Fin N} {i' : Fin M'} {j' : Fin N'}
    (ha : ∀ k, A (ix2 i k) = A' (ix2 i' k)) (hb : ∀ k, B (ix2 k j) = B' (ix2 k j')) : dot A B i j = dot A' B' i' j' :=
  Finset.sum_congr rfl fun k _ => by rw [ha, hb]

/-- Against a zero column nothing is left. -/
theorem dot_zero {M K N : ℕ} {A : (⟨2, ![M, K]⟩ : Shape).Idx → EReal} {B : (⟨2, ![K, N]⟩ : Shape).Idx → EReal} {i : Fin M} {j : Fin N}
    (hb : ∀ k, B (ix2 k j) = 0) : dot A B i j = 0 :=
  Finset.sum_eq_zero fun k _ => by rw [hb, mul_zero]

/-- The product written out, its column named otherwise. -/
theorem sum_eq {M K N : ℕ} {A : (⟨2, ![M, K]⟩ : Shape).Idx → EReal} {B : (⟨2, ![K, N]⟩ : Shape).Idx → EReal} {i : Fin M} {j n : Fin N} (h : j.val = n.val) :
    ∑ k : Fin K, A (ix2 i k) * B (ix2 k j) = dot A B i n := by rw [Fin.ext h]; rfl

/-- The columns of the steps, the indexer's keys and its weights, then zeros. -/
noncomputable def steps (A : (⟨2, ![8192, 2048]⟩ : Shape).Idx → EReal) (B : (⟨2, ![2048, 6752]⟩ : Shape).Idx → EReal) (i : Fin 8192) (j : Fin 128) : EReal :=
  if h : j.val < 16 then dot A B i ⟨2560 + j.val, by omega⟩ else if h : j.val - 16 < 80 then dot A B i ⟨6672 + (j.val - 16), by omega⟩ else 0

/-- Matrices with the same entries are equal. -/
theorem ext {α : Type} {M N : ℕ} {f g : (⟨2, ![M, N]⟩ : Shape).Idx → α} (h : ∀ (i : Fin M) (j : Fin N), f (ix2 i j) = g (ix2 i j)) : f = g :=
  funext fun q => by rw [ValueIdx.eq_ix2 q]; exact h (q 0) (q 1)

end Lin
-- ==== Proof.InZa.lean ====
/-
  The in_proj call for the gate and the recurrence's inputs: every entry is a row of `h` against a column of the weights.
-/
module

public import proofs.«01_k».proof.Proof.Gen.ZaKernel.Frame
public import proofs.«01_k».proof.Proof.Gen.ZaKernelIdeal.Frame
public import proofs.«01_k».proof.Proof.Gen.ZaKernelIdeal.Value
public import proofs.«01_k».proof.Proof.Gen.ZaReferenceIdeal.Run
public import proofs.«01_k».proof.Proof.Tiles2
public import proofs.«01_k».proof.Proof.Lin
public import Idealize.ShloMosaic.Lib.Claim
public import Idealize.ShloMosaic.Lib.Quiescent
public import proofs.«01_k».proof.Defs

@[expose] public section

set_option maxRecDepth 16384

noncomputable section

open Idealize.ShloMosaic Idealize.ShloMosaic.TcCoe Idealize.SL.Sem

namespace Cert.ZaKernelIdeal.In

open Cert.ZaKernelIdeal Cert.ZaKernelIdeal.Gen

variable (m : (ℓ : Loc nD τ sig) → Buf (Elt Ideal) ℓ) (d : Dev nD)

/-- The windows' block indices at every grid point. -/
theorem idx : ∀ t : Fin cfg0.N, win0_0.index t = ![t.val / 5, 0] ∧ win0_1.index t = ![0, t.val % 5] ∧ win0_2.index t = ![t.val / 5, t.val % 5] :=
  (by decide +kernel : ∀ t : Fin grid0.N, _)

/-- The weights as the call gets them. -/
abbrev wt : (⟨2, ![2048, 2560]⟩ : Shape).Idx → EReal := (V m d (Pipeline.arrRef spec0 1) : FVec Ideal S2048x2560 .bf16)

/-- The rows of `h` at a point. -/
theorem w0 (t : Fin cfg0.N) (r : Fin 1024) (k : Fin 2048) (i : Fin 8192) (hi : i.val = t.val / 5 * 1024 + r.val) :
    (iblk m d 0 t : FVec Ideal S1024x2048 .bf16) (ix2 r k) = (m ((d : Thread nD τ).loc main_arg0) : FVec Ideal S8192x2048 .f32) (ix2 i k) := by
  refine Eq.trans (b := (V m d (Pipeline.arrRef spec0 0) : FVec Ideal S8192x2048 .bf16) (ix2 i k)) (by blk_ext [iblk, idx t, hi]) ?_
  unfold_abbrev_sides
  simp only [hostOps0, List.flatten_cons, List.flatten_nil, List.cons_append, List.nil_append]
  after_reads_simp
  pointwise

/-- The columns of the weights at a point. -/
theorem w1 (t : Fin cfg0.N) (k : Fin 2048) (q : Fin 512) (j : Fin 2560) (hj : j.val = t.val % 5 * 512 + q.val) :
    (iblk m d 1 t : FVec Ideal S2048x512 .bf16) (ix2 k q) = wt m d (ix2 k j) := by
  blk_ext [iblk, idx t, hj]

/-- One block of the product. -/
theorem out_at (x0 : Vec Ideal S1024x2048 .bf16) (x1 : Vec Ideal S2048x512 .bf16) (r : Fin 1024) (q : Fin 512) :
    (out0_2 (F := Ideal) x0 x1 : FVec Ideal S1024x512 .f32) (ix2 r q) = Lin.dot x0 x1 r q := by
  unfold out0_2
  refine (Tiles2.hit (Val := Elt Ideal) (e := .f32) _ _ _ r q r q (Nat.zero_add _).symm (Nat.zero_add _).symm).trans ?_
  unfold k0_pay1
  pointwise
  exact Lin.sum_eq rfl

/-- The product's entries. -/
theorem final_at (i : Fin 8192) (j : Fin 2560) :
    ((dats m 0 d).arrAt 2 cfg0.N : FVec Ideal S8192x2560 .f32) (ix2 i j)
      = Lin.dot (m ((d : Thread nD τ).loc main_arg0) : FVec Ideal S8192x2048 .f32) (wt m d) i j := by
  have hN : i.val / 1024 * 5 + j.val / 512 < cfg0.N := by show _ < 40; omega
  have hb := congrFun (Value.blocks2 m d ⟨_, hN⟩ ((by decide +kernel : ∀ t : Fin grid0.N, (cfg0.win 2).flush t = true) _)) (ix2 (⟨i.val % 1024, Nat.mod_lt _ (by decide)⟩ : Fin 1024) (⟨j.val % 512, Nat.mod_lt _ (by decide)⟩ : Fin 512))
  have ht := idx ⟨_, hN⟩
  refine Eq.trans (by blk_ext [ht]) (hb.trans ?_)
  rw [Value.flushed2]
  refine (out_at _ _ _ _).trans (Lin.dot_eq (fun k => ?_) fun k => ?_)
  · exact w0 m d _ _ k i (by show i.val = (i.val / 1024 * 5 + j.val / 512) / 5 * 1024 + i.val % 1024; omega)
  · exact w1 m d _ k _ j (by show j.val = (i.val / 1024 * 5 + j.val / 512) % 5 * 512 + j.val % 512; omega)

/-- The call's weights are the first 2560 columns. -/
theorem wt_at (k : Fin 2048) (j : Fin 2560) (n : Fin 6752) (hn : n.val = 0 + j.val) :
    wt m d (ix2 k j) = (m ((d : Thread nD τ).loc main_arg1) : FVec Ideal S2048x6752 .f32) (ix2 k n) := by
  unfold wt
  unfold_abbrev_sides
  simp only [hostOps0, List.flatten_cons, List.flatten_nil, List.cons_append, List.nil_append]
  after_reads_simp
  pointwise
  exact congrArg (m (d, Proc.tc.devRef main_arg1)) (congrArg (ix2 k) (Fin.ext (by show j.val = n.val; omega)))

/-- The product's entries, of the arguments. -/
theorem value_at (i : Fin 8192) (j : Fin 2560) (n : Fin 6752) (hn : n.val = 0 + j.val) :
    ((dats m 0 d).arrAt 2 cfg0.N : FVec Ideal S8192x2560 .f32) (ix2 i j)
      = Lin.dot (m ((d : Thread nD τ).loc main_arg0) : FVec Ideal S8192x2048 .f32) (m ((d : Thread nD τ).loc main_arg1) : FVec Ideal S2048x6752 .f32) i n :=
  (final_at m d i j).trans (Lin.dot_eq (fun _ => rfl) fun k => wt_at m d k j n hn)

end Cert.ZaKernelIdeal.In

namespace Cert.ZaReferenceIdeal.In

open Cert.ZaReferenceIdeal Cert.ZaReferenceIdeal.Gen

/-- The reference's columns, laid out as the call's. -/
theorem ref_at (A : FVec Ideal S8192x2048 .f32) (B : FVec Ideal S2048x6752 .f32) (i : Fin 8192) (j : Fin 2560) (n : Fin 6752) (hn : n.val = 0 + j.val) :
    (concatenate S8192x2560 1
      [⟨S8192x1024, extractStridedSlice S8192x1024 ![0, 0] (Host.dotGeneral (F := Ideal) dot_S8192x2048_S2048x6752_S8192x6752_1_0_0_1_n_n none A B) slices_S8192x6752_S8192x1024_0_0⟩,
        ⟨S8192x1536, extractStridedSlice S8192x1536 ![0, 1024] (Host.dotGeneral (F := Ideal) dot_S8192x2048_S2048x6752_S8192x6752_1_0_0_1_n_n none A B) slices_S8192x6752_S8192x1536_0_1024⟩]
      concatenates_S8192x1024_S8192x1536_S8192x2560_d1 : FVec Ideal S8192x2560 .f32) (ix2 i j) = Lin.dot A B i n := by
  pointwise
  split <;> exact Lin.sum_eq (by simp only []; omega)

end Cert.ZaReferenceIdeal.In

namespace Cert.Proof

/-- The reference leaves its arguments alone, and has no semaphores. -/
theorem za_quiet : Cert.quiescent_ZaReferenceIdeal := by
  intro m g _
  refine (θ_run _ _ _).mono (fun r h => ?_) (Cert.ZaReferenceIdeal.Value.run m g)
  exact ⟨fun c => (h c).2, sem_eq_zero_of_no_sems rfl _⟩

/-- The call's result is the reference's. -/
theorem za_algebraic : Cert.algebraic_ZaKernelIdeal_ZaReferenceIdeal := by
  pair_intro
  · run_from Cert.ZaKernelIdeal.Value.run_blocks m g
  · run_from Cert.ZaReferenceIdeal.Value.run m' g'
    refine Lin.ext fun (i : Fin 8192) (j : Fin 2560) => ?_
    refine Eq.trans ?_ (Cert.ZaKernelIdeal.In.value_at m c i j ⟨0 + j.val, by omega⟩ rfl).symm
    exact Cert.ZaReferenceIdeal.In.ref_at _ _ i j _ rfl

end Cert.Proof
-- ==== Proof.InQkvi.lean ====
/-
  The in_proj call for the attention's queries, keys and values and the indexer's queries: every entry is a row of `h` against a column of the weights.
-/
module

public import proofs.«01_k».proof.Proof.Gen.QkviKernel.Frame
public import proofs.«01_k».proof.Proof.Gen.QkviKernelIdeal.Frame
public import proofs.«01_k».proof.Proof.Gen.QkviKernelIdeal.Value
public import proofs.«01_k».proof.Proof.Gen.QkviReferenceIdeal.Run
public import proofs.«01_k».proof.Proof.Tiles2
public import proofs.«01_k».proof.Proof.Lin
public import Idealize.ShloMosaic.Lib.Claim
public import Idealize.ShloMosaic.Lib.Quiescent
public import proofs.«01_k».proof.Defs

@[expose] public section

set_option maxRecDepth 16384

noncomputable section

open Idealize.ShloMosaic Idealize.ShloMosaic.TcCoe Idealize.SL.Sem

namespace Cert.QkviKernelIdeal.In

open Cert.QkviKernelIdeal Cert.QkviKernelIdeal.Gen

variable (m : (ℓ : Loc nD τ sig) → Buf (Elt Ideal) ℓ) (d : Dev nD)

/-- The windows' block indices at every grid point. -/
theorem idx : ∀ t : Fin cfg0.N, win0_0.index t = ![t.val / 8, 0] ∧ win0_1.index t = ![0, t.val % 8] ∧ win0_2.index t = ![t.val / 8, t.val % 8] :=
  (by decide +kernel : ∀ t : Fin grid0.N, _)

/-- The weights as the call gets them. -/
abbrev wt : (⟨2, ![2048, 4096]⟩ : Shape).Idx → EReal := (V m d (Pipeline.arrRef spec0 1) : FVec Ideal S2048x4096 .bf16)

/-- The rows of `h` at a point. -/
theorem w0 (t : Fin cfg0.N) (r : Fin 1024) (k : Fin 2048) (i : Fin 8192) (hi : i.val = t.val / 8 * 1024 + r.val) :
    (iblk m d 0 t : FVec Ideal S1024x2048 .bf16) (ix2 r k) = (m ((d : Thread nD τ).loc main_arg0) : FVec Ideal S8192x2048 .f32) (ix2 i k) := by
  refine Eq.trans (b := (V m d (Pipeline.arrRef spec0 0) : FVec Ideal S8192x2048 .bf16) (ix2 i k)) (by blk_ext [iblk, idx t, hi]) ?_
  unfold_abbrev_sides
  simp only [hostOps0, List.flatten_cons, List.flatten_nil, List.cons_append, List.nil_append]
  after_reads_simp
  pointwise

/-- The columns of the weights at a point. -/
theorem w1 (t : Fin cfg0.N) (k : Fin 2048) (q : Fin 512) (j : Fin 4096) (hj : j.val = t.val % 8 * 512 + q.val) :
    (iblk m d 1 t : FVec Ideal S2048x512 .bf16) (ix2 k q) = wt m d (ix2 k j) := by
  blk_ext [iblk, idx t, hj]

/-- One block of the product. -/
theorem out_at (x0 : Vec Ideal S1024x2048 .bf16) (x1 : Vec Ideal S2048x512 .bf16) (r : Fin 1024) (q : Fin 512) :
    (out0_2 (F := Ideal) x0 x1 : FVec Ideal S1024x512 .bf16) (ix2 r q) = Lin.dot x0 x1 r q := by
  unfold out0_2
  refine (Tiles2.hit (Val := Elt Ideal) (e := .bf16) _ _ _ r q r q (Nat.zero_add _).symm (Nat.zero_add _).symm).trans ?_
  unfold k0_pay1
  pointwise
  exact Lin.sum_eq rfl

/-- The product's entries. -/
theorem final_at (i : Fin 8192) (j : Fin 4096) :
    ((dats m 0 d).arrAt 2 cfg0.N : FVec Ideal S8192x4096 .bf16) (ix2 i j)
      = Lin.dot (m ((d : Thread nD τ).loc main_arg0) : FVec Ideal S8192x2048 .f32) (wt m d) i j := by
  have hN : i.val / 1024 * 8 + j.val / 512 < cfg0.N := by show _ < 64; omega
  have hb := congrFun (Value.blocks2 m d ⟨_, hN⟩ ((by decide +kernel : ∀ t : Fin grid0.N, (cfg0.win 2).flush t = true) _)) (ix2 (⟨i.val % 1024, Nat.mod_lt _ (by decide)⟩ : Fin 1024) (⟨j.val % 512, Nat.mod_lt _ (by decide)⟩ : Fin 512))
  have ht := idx ⟨_, hN⟩
  refine Eq.trans (by blk_ext [ht]) (hb.trans ?_)
  rw [Value.flushed2]
  refine (out_at _ _ _ _).trans (Lin.dot_eq (fun k => ?_) fun k => ?_)
  · exact w0 m d _ _ k i (by show i.val = (i.val / 1024 * 8 + j.val / 512) / 8 * 1024 + i.val % 1024; omega)
  · exact w1 m d _ k _ j (by show j.val = (i.val / 1024 * 8 + j.val / 512) % 8 * 512 + j.val % 512; omega)

/-- The call's weights are the 4096 columns from 2576 on. -/
theorem wt_at (k : Fin 2048) (j : Fin 4096) (n : Fin 6752) (hn : n.val = 2576 + j.val) :
    wt m d (ix2 k j) = (m ((d : Thread nD τ).loc main_arg1) : FVec Ideal S2048x6752 .f32) (ix2 k n) := by
  unfold wt
  unfold_abbrev_sides
  simp only [hostOps0, List.flatten_cons, List.flatten_nil, List.cons_append, List.nil_append]
  after_reads_simp
  pointwise
  exact congrArg (m (d, Proc.tc.devRef main_arg1)) (congrArg (ix2 k) (Fin.ext (by show 2576 + j.val = n.val; omega)))

/-- The product's entries, of the arguments. -/
theorem value_at (i : Fin 8192) (j : Fin 4096) (n : Fin 6752) (hn : n.val = 2576 + j.val) :
    ((dats m 0 d).arrAt 2 cfg0.N : FVec Ideal S8192x4096 .bf16) (ix2 i j)
      = Lin.dot (m ((d : Thread nD τ).loc main_arg0) : FVec Ideal S8192x2048 .f32) (m ((d : Thread nD τ).loc main_arg1) : FVec Ideal S2048x6752 .f32) i n :=
  (final_at m d i j).trans (Lin.dot_eq (fun _ => rfl) fun k => wt_at m d k j n hn)

end Cert.QkviKernelIdeal.In

namespace Cert.QkviReferenceIdeal.In

open Cert.QkviReferenceIdeal Cert.QkviReferenceIdeal.Gen

/-- The reference's columns, laid out as the call's. -/
theorem ref_at (A : FVec Ideal S8192x2048 .f32) (B : FVec Ideal S2048x6752 .f32) (i : Fin 8192) (j : Fin 4096) (n : Fin 6752) (hn : n.val = 2576 + j.val) :
    (truncf .bf16 (concatenate S8192x4096 1
      [⟨S8192x1024, extractStridedSlice S8192x1024 ![0, 2576] (Host.dotGeneral (F := Ideal) dot_S8192x2048_S2048x6752_S8192x6752_1_0_0_1_n_n none A B) slices_S8192x6752_S8192x1024_0_2576⟩,
        ⟨S8192x1024, extractStridedSlice S8192x1024 ![0, 3600] (Host.dotGeneral (F := Ideal) dot_S8192x2048_S2048x6752_S8192x6752_1_0_0_1_n_n none A B) slices_S8192x6752_S8192x1024_0_3600⟩,
        ⟨S8192x1024, extractStridedSlice S8192x1024 ![0, 4624] (Host.dotGeneral (F := Ideal) dot_S8192x2048_S2048x6752_S8192x6752_1_0_0_1_n_n none A B) slices_S8192x6752_S8192x1024_0_4624⟩,
        ⟨S8192x1024, extractStridedSlice S8192x1024 ![0, 5648] (Host.dotGeneral (F := Ideal) dot_S8192x2048_S2048x6752_S8192x6752_1_0_0_1_n_n none A B) slices_S8192x6752_S8192x1024_0_5648⟩]
      concatenates_S8192x1024_S8192x1024_S8192x1024_S8192x1024_S8192x4096_d1 : FVec Ideal S8192x4096 .f32) bitsLt_bf16_f32 : FVec Ideal S8192x4096 .bf16) (ix2 i j) = Lin.dot A B i n := by
  pointwise
  split_ifs <;> exact Lin.sum_eq (by simp only []; omega)

end Cert.QkviReferenceIdeal.In

namespace Cert.Proof

/-- The reference leaves its arguments alone, and has no semaphores. -/
theorem qkvi_quiet : Cert.quiescent_QkviReferenceIdeal := by
  intro m g _
  refine (θ_run _ _ _).mono (fun r h => ?_) (Cert.QkviReferenceIdeal.Value.run m g)
  exact ⟨fun c => (h c).2, sem_eq_zero_of_no_sems rfl _⟩

/-- The call's result is the reference's. -/
theorem qkvi_algebraic : Cert.algebraic_QkviKernelIdeal_QkviReferenceIdeal := by
  pair_intro
  · run_from Cert.QkviKernelIdeal.Value.run_blocks m g
  · run_from Cert.QkviReferenceIdeal.Value.run m' g'
    refine Lin.ext fun (i : Fin 8192) (j : Fin 4096) => ?_
    refine Eq.trans ?_ (Cert.QkviKernelIdeal.In.value_at m c i j ⟨2576 + j.val, by omega⟩ rfl).symm
    exact Cert.QkviReferenceIdeal.In.ref_at _ _ i j _ rfl

end Cert.Proof
-- ==== Proof.InSm.lean ====
/-
  The in_proj call for the steps and the indexer's keys and weights: every entry is a row of `h` against a column of the weights.
-/
module

public import proofs.«01_k».proof.Proof.Gen.SmKernel.Frame
public import proofs.«01_k».proof.Proof.Gen.SmKernelIdeal.Frame
public import proofs.«01_k».proof.Proof.Gen.SmKernelIdeal.Value
public import proofs.«01_k».proof.Proof.Gen.SmReferenceIdeal.Run
public import proofs.«01_k».proof.Proof.Tiles2
public import proofs.«01_k».proof.Proof.Lin
public import Idealize.ShloMosaic.Lib.Claim
public import Idealize.ShloMosaic.Lib.Quiescent
public import proofs.«01_k».proof.Defs

@[expose] public section

set_option maxRecDepth 16384

noncomputable section

open Idealize.ShloMosaic Idealize.ShloMosaic.TcCoe Idealize.SL.Sem

namespace Cert.SmKernelIdeal.In

open Cert.SmKernelIdeal Cert.SmKernelIdeal.Gen

variable (m : (ℓ : Loc nD τ sig) → Buf (Elt Ideal) ℓ) (d : Dev nD)

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, _)

/-- The weights as the call gets them. -/
abbrev wt : (⟨2, ![2048, 128]⟩ : Shape).Idx → EReal := (V m d (Pipeline.arrRef spec0 1) : FVec Ideal S2048x128 .bf16)

/-- The rows of `h` at a point. -/
theorem w0 (t : Fin cfg0.N) (r : Fin 1024) (k : Fin 2048) (i : Fin 8192) (hi : i.val = t.val * 1024 + r.val) :
    (iblk m d 0 t : FVec Ideal S1024x2048 .bf16) (ix2 r k) = (m ((d : Thread nD τ).loc main_arg0) : FVec Ideal S8192x2048 .f32) (ix2 i k) := by
  refine Eq.trans (b := (V m d (Pipeline.arrRef spec0 0) : FVec Ideal S8192x2048 .bf16) (ix2 i k)) (by blk_ext [iblk, idx t, hi]) ?_
  unfold_abbrev_sides
  simp only [hostOps0, List.flatten_cons, List.flatten_nil, List.cons_append, List.nil_append]
  after_reads_simp
  pointwise

/-- The columns of the weights at a point. -/
theorem w1 (t : Fin cfg0.N) (k : Fin 2048) (q : Fin 128) (j : Fin 128) (hj : j.val = q.val) :
    (iblk m d 1 t : FVec Ideal S2048x128 .bf16) (ix2 k q) = wt m d (ix2 k j) := by
  blk_ext [iblk, idx t, hj]

/-- One block of the product. -/
theorem out_at (x0 : Vec Ideal S1024x2048 .bf16) (x1 : Vec Ideal S2048x128 .bf16) (r : Fin 1024) (q : Fin 128) :
    (out0_2 (F := Ideal) x0 x1 : FVec Ideal S1024x128 .f32) (ix2 r q) = Lin.dot x0 x1 r q := by
  unfold out0_2
  refine (Tiles2.hit (Val := Elt Ideal) (e := .f32) _ _ _ r q r q (Nat.zero_add _).symm (Nat.zero_add _).symm).trans ?_
  unfold k0_pay1
  pointwise
  exact Lin.sum_eq rfl

/-- The product's entries. -/
theorem final_at (i : Fin 8192) (j : Fin 128) :
    ((dats m 0 d).arrAt 2 cfg0.N : FVec Ideal S8192x128 .f32) (ix2 i j)
      = Lin.dot (m ((d : Thread nD τ).loc main_arg0) : FVec Ideal S8192x2048 .f32) (wt m d) i j := by
  have hN : i.val / 1024 < cfg0.N := by show _ < 8; omega
  have hb := congrFun (Value.blocks2 m d ⟨_, hN⟩ ((by decide +kernel : ∀ t : Fin grid0.N, (cfg0.win 2).flush t = true) _)) (ix2 (⟨i.val % 1024, Nat.mod_lt _ (by decide)⟩ : Fin 1024) (⟨j.val % 128, Nat.mod_lt _ (by decide)⟩ : Fin 128))
  have ht := idx ⟨_, hN⟩
  refine Eq.trans (by blk_ext [ht]) (hb.trans ?_)
  rw [Value.flushed2]
  refine (out_at _ _ _ _).trans (Lin.dot_eq (fun k => ?_) fun k => ?_)
  · exact w0 m d _ _ k i (by show i.val = i.val / 1024 * 1024 + i.val % 1024; omega)
  · exact w1 m d _ k _ j (by show j.val = j.val % 128; omega)

/-- The call's weights: 16 columns from 2560 on, 80 from 6672 on, and zeros. -/
theorem wt_at (k : Fin 2048) (j : Fin 128) :
    wt m d (ix2 k j) = if h : j.val < 16 then (m ((d : Thread nD τ).loc main_arg1) : FVec Ideal S2048x6752 .f32) (ix2 k ⟨2560 + j.val, by omega⟩)
      else if h : j.val - 16 < 80 then (m ((d : Thread nD τ).loc main_arg1) : FVec Ideal S2048x6752 .f32) (ix2 k ⟨6672 + (j.val - 16), by omega⟩) else (0 : EReal) := by
  unfold wt
  unfold_abbrev_sides
  simp only [hostOps0, List.flatten_cons, List.flatten_nil, List.cons_append, List.nil_append]
  after_reads_simp
  pointwise
  after_reads_simp
  pointwise

/-- The product's entries, of the arguments. -/
theorem value_at (i : Fin 8192) (j : Fin 128) :
    ((dats m 0 d).arrAt 2 cfg0.N : FVec Ideal S8192x128 .f32) (ix2 i j)
      = Lin.steps (m ((d : Thread nD τ).loc main_arg0) : FVec Ideal S8192x2048 .f32) (m ((d : Thread nD τ).loc main_arg1) : FVec Ideal S2048x6752 .f32) i j := by
  rw [final_at]
  unfold Lin.steps
  split_ifs with h h'
  · exact Lin.dot_eq (fun _ => rfl) fun k => (wt_at m d k j).trans (dif_pos h)
  · exact Lin.dot_eq (fun _ => rfl) fun k => (wt_at m d k j).trans ((dif_neg h).trans (dif_pos h'))
  · exact Lin.dot_zero fun k => (wt_at m d k j).trans ((dif_neg h).trans (dif_neg h'))

end Cert.SmKernelIdeal.In

namespace Cert.SmReferenceIdeal.In

open Cert.SmReferenceIdeal Cert.SmReferenceIdeal.Gen

/-- The reference's columns, laid out as the call's. -/
theorem ref_at (A : FVec Ideal S8192x2048 .f32) (B : FVec Ideal S2048x6752 .f32) (i : Fin 8192) (j : Fin 128) :
    (concatenate S8192x128 1
      [⟨S8192x16, extractStridedSlice S8192x16 ![0, 2560] (Host.dotGeneral (F := Ideal) dot_S8192x2048_S2048x6752_S8192x6752_1_0_0_1_n_n none A B) slices_S8192x6752_S8192x16_0_2560⟩,
        ⟨S8192x64, extractStridedSlice S8192x64 ![0, 6672] (Host.dotGeneral (F := Ideal) dot_S8192x2048_S2048x6752_S8192x6752_1_0_0_1_n_n none A B) slices_S8192x6752_S8192x64_0_6672⟩,
        ⟨S8192x16, extractStridedSlice S8192x16 ![0, 6736] (Host.dotGeneral (F := Ideal) dot_S8192x2048_S2048x6752_S8192x6752_1_0_0_1_n_n none A B) slices_S8192x6752_S8192x16_0_6736⟩,
        ⟨S8192x32, broadcastInDim S8192x32 ![] bcast_S_S8192x32 (constant (F := Ideal) S_ .f32 0x00000000#32)⟩]
      concatenates_S8192x16_S8192x64_S8192x16_S8192x32_S8192x128_d1 : FVec Ideal S8192x128 .f32) (ix2 i j) = Lin.steps A B i j := by
  unfold Lin.steps
  pointwise
  split_ifs <;> first
    | omega
    | rfl
    | exact Lin.sum_eq rfl
    | (rw [dif_pos (by omega)]; exact Lin.sum_eq (by simp only [] <;> omega))

end Cert.SmReferenceIdeal.In

namespace Cert.Proof

/-- The reference leaves its arguments alone, and has no semaphores. -/
theorem sm_quiet : Cert.quiescent_SmReferenceIdeal := by
  intro m g _
  refine (θ_run _ _ _).mono (fun r h => ?_) (Cert.SmReferenceIdeal.Value.run m g)
  exact ⟨fun c => (h c).2, sem_eq_zero_of_no_sems rfl _⟩

/-- The call's result is the reference's. -/
theorem sm_algebraic : Cert.algebraic_SmKernelIdeal_SmReferenceIdeal := by
  pair_intro
  · run_from Cert.SmKernelIdeal.Value.run_blocks m g
  · run_from Cert.SmReferenceIdeal.Value.run m' g'
    refine Lin.ext fun (i : Fin 8192) (j : Fin 128) => ?_
    exact (Cert.SmReferenceIdeal.In.ref_at _ _ i j).trans (Cert.SmKernelIdeal.In.value_at m c i j).symm

end Cert.Proof
-- ==== Proof.Ln.lean ====
/-
  Layer normalization of one row of 2048 entries, and the row that the layer's last step normalizes.
-/
module

public import proofs.«01_k».proof.Proof.Lin

@[expose] public section

open Idealize.ShloMosaic

noncomputable section

namespace Ln

/-- The mean of a row. -/
def mean (u : Fin 2048 → EReal) : EReal := Ideal.div (∑ k, u k) (Ideal.ofBits .f32 0x45000000#32)

/-- A row's deviation from its mean. -/
def dev (u : Fin 2048 → EReal) (k : Fin 2048) : EReal := u k - mean u

/-- The reciprocal of a row's standard deviation. -/
def scale (u : Fin 2048 → EReal) : EReal :=
  Ideal.rsqrt (Ideal.div (∑ k, dev u k * dev u k) (Ideal.ofBits .f32 0x45000000#32) + Ideal.ofBits .f32 0x3727C5AC#32)

/-- A normalized entry. -/
def norm (u : Fin 2048 → EReal) (g b : EReal) (k : Fin 2048) : EReal := dev u k * scale u * g + b

/-- The residual, the experts' result and the gated projection, added up. -/
def gated (h f z p : EReal) : EReal := Ideal.ofBits .f32 0x3FB504F3#32 * h + f + Ideal.div 1 (1 + Ideal.exp (-z)) * p

end Ln

end
-- ==== Proof.Ple.lean ====
/-
  The layer's last step: the residual, the experts' result and the gated projection are added up, and each row is normalized.
-/
module

public import proofs.«01_k».proof.Proof.Gen.PleKernel.Frame
public import proofs.«01_k».proof.Proof.Gen.PleKernelIdeal.Frame
public import proofs.«01_k».proof.Proof.Gen.PleKernelIdeal.Value
public import proofs.«01_k».proof.Proof.Gen.PleReferenceIdeal.Run
public import proofs.«01_k».proof.Proof.Tiles2
public import proofs.«01_k».proof.Proof.Ln
public import Idealize.ShloMosaic.Lib.Claim
public import Idealize.ShloMosaic.Lib.Quiescent
public import proofs.«01_k».proof.Defs

@[expose] public section

set_option maxRecDepth 16384

noncomputable section

open Idealize.ShloMosaic Idealize.ShloMosaic.TcCoe Idealize.SL.Sem

namespace Ple

/-- The row that is normalized, of matrices of any number of rows. -/
def row {M : ℕ} (h : (⟨2, ![M, 2048]⟩ : Shape).Idx → EReal) (x : (⟨2, ![M, 2048]⟩ : Shape).Idx → EReal) (f : (⟨2, ![M, 2048]⟩ : Shape).Idx → EReal) (p : (⟨2, ![M, 256]⟩ : Shape).Idx → EReal)
    (wg : (⟨2, ![2048, 2048]⟩ : Shape).Idx → EReal) (wp : (⟨2, ![256, 2048]⟩ : Shape).Idx → EReal) (i : Fin M) (j : Fin 2048) : EReal :=
  Ln.gated (h (ix2 i j)) (f (ix2 i j)) (Lin.dot x wg i j) (Lin.dot p wp i j)

/-- Rows of equal entries are equal. -/
theorem row_eq {M M' : ℕ} {h x f : (⟨2, ![M, 2048]⟩ : Shape).Idx → EReal} {p : (⟨2, ![M, 256]⟩ : Shape).Idx → EReal}
    {wg : (⟨2, ![2048, 2048]⟩ : Shape).Idx → EReal} {wp : (⟨2, ![256, 2048]⟩ : Shape).Idx → EReal}
    {h' x' f' : (⟨2, ![M', 2048]⟩ : Shape).Idx → EReal} {p' : (⟨2, ![M', 256]⟩ : Shape).Idx → EReal}
    {wg' : (⟨2, ![2048, 2048]⟩ : Shape).Idx → EReal} {wp' : (⟨2, ![256, 2048]⟩ : Shape).Idx → EReal} {i : Fin M} {i' : Fin M'}
    (hh : ∀ k, h (ix2 i k) = h' (ix2 i' k)) (hx : ∀ k, x (ix2 i k) = x' (ix2 i' k)) (hf : ∀ k, f (ix2 i k) = f' (ix2 i' k))
    (hp : ∀ k, p (ix2 i k) = p' (ix2 i' k)) (hg : ∀ k j, wg (ix2 k j) = wg' (ix2 k j)) (hw : ∀ k j, wp (ix2 k j) = wp' (ix2 k j)) :
    row h x f p wg wp i = row h' x' f' p' wg' wp' i' := funext fun j => by
  unfold row
  rw [hh, hf, Lin.dot_eq (j' := j) hx fun k => hg k j, Lin.dot_eq (j' := j) hp fun k => hw k j]

end Ple

namespace Cert.PleKernelIdeal.In

open Cert.PleKernelIdeal Cert.PleKernelIdeal.Gen

/-- What the kernel centers. -/
theorem pay5_at (v0 : Vec Ideal S256x2048 .bf16) (v2 : Vec Ideal S2048x2048 .bf16) (v12 : Vec Ideal S256x256 .f32) (v14 : Vec Ideal S256x2048 .bf16)
    (v17 v20 : Vec Ideal S256x2048 .f32) (r : Fin 256) (q : Fin 2048) :
    (k0_pay5 (F := Ideal) v0 v2 v12 v14 v17 v20 : FVec Ideal S256x2048 .f32) (ix2 r q) = Ln.dev (Ple.row v17 v0 v20 v12 v2 v14 r) q := by
  unfold k0_pay5
  pointwise
  simp only [zero_sub]
  rfl

/-- How the kernel scales it. -/
theorem pay1_at (v25 v27 : FVec Ideal S1x2048 .f32) (v33 v34 : FVec Ideal S256x2048 .f32) (u : Fin 2048 → EReal) (r : Fin 256) (q : Fin 2048)
    (h33 : v33 (ix2 r q) = Ln.dev u q) (h34 : ∀ k, v34 (ix2 r k) = Ln.dev u k * Ln.dev u k) :
    (k0_pay1 (F := Ideal) v25 v27 v33 v34 : FVec Ideal S256x2048 .f32) (ix2 r q) = Ln.norm u (v25 (ix2 0 q)) (v27 (ix2 0 q)) q := by
  unfold k0_pay1
  pointwise
  simp only [h33, h34]
  rfl

variable (m : (ℓ : Loc nD τ sig) → Buf (Elt Ideal) ℓ) (d : Dev nD)

/-- The windows' block indices at every grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![t.val, 0] ∧ win0_9.index t = ![t.val, 0] :=
  (by decide +kernel : ∀ t : Fin grid0.N, _)

/-- The residual at a point. -/
theorem w0 (t : Fin cfg0.N) (r : Fin 256) (k : Fin 2048) (i : Fin 8192) (hi : i.val = t.val * 256 + r.val) :
    (iblk m d 0 t : FVec Ideal S256x2048 .f32) (ix2 r k) = (m ((d : Thread nD τ).loc main_arg0) : FVec Ideal S8192x2048 .f32) (ix2 i k) := by
  refine Eq.trans (b := (V m d (Pipeline.arrRef spec0 0) : FVec Ideal S8192x2048 .f32) (ix2 i k)) (by blk_ext [iblk, idx t, hi]) ?_
  unfold_abbrev_sides
  simp only [hostOps0, List.flatten_cons, List.flatten_nil, List.cons_append, List.nil_append]
  after_reads_simp

/-- The same in bf16. -/
theorem w1 (t : Fin cfg0.N) (r : Fin 256) (k : Fin 2048) (i : Fin 8192) (hi : i.val = t.val * 256 + r.val) :
    (iblk m d 1 t : FVec Ideal S256x2048 .bf16) (ix2 r k) = (m ((d : Thread nD τ).loc main_arg0) : FVec Ideal S8192x2048 .f32) (ix2 i k) := by
  refine Eq.trans (b := (V m d (Pipeline.arrRef spec0 1) : FVec Ideal S8192x2048 .bf16) (ix2 i k)) (by blk_ext [iblk, idx t, hi]) ?_
  unfold_abbrev_sides
  simp only [hostOps0, List.flatten_cons, List.flatten_nil, List.cons_append, List.nil_append]
  after_reads_simp
  pointwise

/-- The experts' result at a point. -/
theorem w2 (t : Fin cfg0.N) (r : Fin 256) (k : Fin 2048) (i : Fin 8192) (hi : i.val = t.val * 256 + r.val) :
    (iblk m d 2 t : FVec Ideal S256x2048 .f32) (ix2 r k) = (m ((d : Thread nD τ).loc main_arg1) : FVec Ideal S8192x2048 .f32) (ix2 i k) := by
  refine Eq.trans (b := (V m d (Pipeline.arrRef spec0 2) : FVec Ideal S8192x2048 .f32) (ix2 i k)) (by blk_ext [iblk, idx t, hi]) ?_
  unfold_abbrev_sides
  simp only [hostOps0, List.flatten_cons, List.flatten_nil, List.cons_append, List.nil_append]
  after_reads_simp

/-- The embeddings at a point. -/
theorem w3 (t : Fin cfg0.N) (r : Fin 256) (k : Fin 256) (i : Fin 8192) (hi : i.val = t.val * 256 + r.val) :
    (iblk m d 3 t : FVec Ideal S256x256 .f32) (ix2 r k) = (m ((d : Thread nD τ).loc main_arg2) : FVec Ideal S8192x256 .f32) (ix2 i k) := by
  refine Eq.trans (b := (V m d (Pipeline.arrRef spec0 3) : FVec Ideal S8192x256 .f32) (ix2 i k)) (by blk_ext [iblk, idx t, hi]) ?_
  unfold_abbrev_sides
  simp only [hostOps0, List.flatten_cons, List.flatten_nil, List.cons_append, List.nil_append]
  after_reads_simp

/-- The gate's weights. -/
theorem w4 (t : Fin cfg0.N) (k : Fin 2048) (j : Fin 2048) :
    (iblk m d 4 t : FVec Ideal S2048x2048 .bf16) (ix2 k j) = (m ((d : Thread nD τ).loc main_arg3) : FVec Ideal S2048x2048 .f32) (ix2 k j) := by
  refine Eq.trans (b := (V m d (Pipeline.arrRef spec0 4) : FVec Ideal S2048x2048 .bf16) (ix2 k j)) (by blk_ext [iblk, idx t]) ?_
  unfold_abbrev_sides
  simp only [hostOps0, List.flatten_cons, List.flatten_nil, List.cons_append, List.nil_append]
  after_reads_simp
  pointwise

/-- The projection's weights. -/
theorem w5 (t : Fin cfg0.N) (k : Fin 256) (j : Fin 2048) :
    (iblk m d 5 t : FVec Ideal S256x2048 .bf16) (ix2 k j) = (m ((d : Thread nD τ).loc main_arg4) : FVec Ideal S256x2048 .f32) (ix2 k j) := by
  refine Eq.trans (b := (V m d (Pipeline.arrRef spec0 5) : FVec Ideal S256x2048 .bf16) (ix2 k j)) (by blk_ext [iblk, idx t]) ?_
  unfold_abbrev_sides
  simp only [hostOps0, List.flatten_cons, List.flatten_nil, List.cons_append, List.nil_append]
  after_reads_simp
  pointwise

/-- The normalization's factors. -/
theorem w6 (t : Fin cfg0.N) (j : Fin 2048) :
    (iblk m d 6 t : FVec Ideal S1x2048 .f32) (ix2 0 j) = (m ((d : Thread nD τ).loc main_arg5) : FVec Ideal S2048 .f32) (ix1 j) := by
  refine Eq.trans (b := (V m d (Pipeline.arrRef spec0 6) : FVec Ideal S1x2048 .f32) (ix2 0 j)) (by blk_ext [iblk, idx t]) ?_
  unfold_abbrev_sides
  simp only [hostOps0, List.flatten_cons, List.flatten_nil, List.cons_append, List.nil_append]
  after_reads_simp
  pointwise

/-- The normalization's offsets. -/
theorem w7 (t : Fin cfg0.N) (j : Fin 2048) :
    (iblk m d 7 t : FVec Ideal S1x2048 .f32) (ix2 0 j) = (m ((d : Thread nD τ).loc main_arg6) : FVec Ideal S2048 .f32) (ix1 j) := by
  refine Eq.trans (b := (V m d (Pipeline.arrRef spec0 7) : FVec Ideal S1x2048 .f32) (ix2 0 j)) (by blk_ext [iblk, idx t]) ?_
  unfold_abbrev_sides
  simp only [hostOps0, List.flatten_cons, List.flatten_nil, List.cons_append, List.nil_append]
  after_reads_simp
  pointwise

/-- The factors, as the body reads them. -/
theorem pay7_at (x0 : Vec Ideal S256x2048 .f32) (x1 : Vec Ideal S256x2048 .bf16) (x2 : Vec Ideal S256x2048 .f32) (x3 : Vec Ideal S256x256 .f32) (x4 : Vec Ideal S2048x2048 .bf16) (x5 : Vec Ideal S256x2048 .bf16) (x6 x7 : Vec Ideal S1x2048 .f32) (q : Fin 2048) :
    (k0_pay7 (F := Ideal) x0 x1 x2 x3 x4 x5 x6 x7 : FVec Ideal S1x2048 .f32) (ix2 0 q) = x6 (ix2 0 q) := by
  unfold k0_pay7 k0_pay3
  pointwise

/-- The offsets, as the body reads them. -/
theorem pay8_at (x0 : Vec Ideal S256x2048 .f32) (x1 : Vec Ideal S256x2048 .bf16) (x2 : Vec Ideal S256x2048 .f32) (x3 : Vec Ideal S256x256 .f32) (x4 : Vec Ideal S2048x2048 .bf16) (x5 : Vec Ideal S256x2048 .bf16) (x6 x7 : Vec Ideal S1x2048 .f32) (q : Fin 2048) :
    (k0_pay8 (F := Ideal) x0 x1 x2 x3 x4 x5 x6 x7 : FVec Ideal S1x2048 .f32) (ix2 0 q) = x7 (ix2 0 q) := by
  unfold k0_pay8 k0_pay4
  pointwise

/-- A block read whole. -/
theorem ld_eq {e : EltTy} {a b : ℕ} (x : (⟨2, ![a, b]⟩ : Shape).Idx → Elt Ideal e) (inb : ∀ k, (![0, 0] : Fin 2 → ℕ) k + (![a, b] : Fin 2 → ℕ) k ≤ (⟨2, ![a, b]⟩ : Shape).size k) :
    (View.ld x (Rect.unit (s := (⟨2, ![a, b]⟩ : Shape)) ![0, 0] ![a, b] inb) : (⟨2, ![a, b]⟩ : Shape).Idx → Elt Ideal e) = x :=
  funext fun i => congrArg x (funext fun k => Fin.ext (by
    match k with
    | ⟨0, _⟩ => exact (Nat.zero_add _).trans (Nat.one_mul _)
    | ⟨1, _⟩ => exact (Nat.zero_add _).trans (Nat.one_mul _)))

/-- The centered row, of the blocks. -/
theorem pay9_at (x0 : Vec Ideal S256x2048 .f32) (x1 : Vec Ideal S256x2048 .bf16) (x2 : Vec Ideal S256x2048 .f32) (x3 : Vec Ideal S256x256 .f32) (x4 : Vec Ideal S2048x2048 .bf16) (x5 : Vec Ideal S256x2048 .bf16) (x6 x7 : Vec Ideal S1x2048 .f32) (r : Fin 256) (q : Fin 2048) :
    (k0_pay9 (F := Ideal) x0 x1 x2 x3 x4 x5 x6 x7 : FVec Ideal S256x2048 .f32) (ix2 r q) = Ln.dev (Ple.row x0 x1 x2 x3 x4 x5 r) q := by
  refine (pay5_at _ _ _ _ _ _ r q).trans ?_
  exact congrArg (fun u => Ln.dev u q) (Ple.row_eq (fun _ => congrFun (ld_eq _ _) _) (fun _ => congrFun (ld_eq _ _) _) (fun _ => congrFun (ld_eq _ _) _)
    (fun _ => congrFun (ld_eq _ _) _) (fun _ _ => congrFun (ld_eq _ _) _) fun _ _ => congrFun (ld_eq _ _) _)

/-- Its squares. -/
theorem pay10_at (x0 : Vec Ideal S256x2048 .f32) (x1 : Vec Ideal S256x2048 .bf16) (x2 : Vec Ideal S256x2048 .f32) (x3 : Vec Ideal S256x256 .f32) (x4 : Vec Ideal S2048x2048 .bf16) (x5 : Vec Ideal S256x2048 .bf16) (x6 x7 : Vec Ideal S1x2048 .f32) (r : Fin 256) (q : Fin 2048) :
    (k0_pay10 (F := Ideal) x0 x1 x2 x3 x4 x5 x6 x7 : FVec Ideal S256x2048 .f32) (ix2 r q) = Ln.dev (Ple.row x0 x1 x2 x3 x4 x5 r) q * Ln.dev (Ple.row x0 x1 x2 x3 x4 x5 r) q := by
  rw [← pay9_at x0 x1 x2 x3 x4 x5 x6 x7 r q]
  rfl

/-- What the body makes of the blocks. -/
theorem body_at (x0 : Vec Ideal S256x2048 .f32) (x1 : Vec Ideal S256x2048 .bf16) (x2 : Vec Ideal S256x2048 .f32) (x3 : Vec Ideal S256x256 .f32) (x4 : Vec Ideal S2048x2048 .bf16) (x5 : Vec Ideal S256x2048 .bf16) (x6 x7 : Vec Ideal S1x2048 .f32) (r : Fin 256) (q : Fin 2048) :
    (k0_pay1 (F := Ideal) (k0_pay7 x0 x1 x2 x3 x4 x5 x6 x7) (k0_pay8 x0 x1 x2 x3 x4 x5 x6 x7) (k0_pay9 x0 x1 x2 x3 x4 x5 x6 x7) (k0_pay10 x0 x1 x2 x3 x4 x5 x6 x7) : FVec Ideal S256x2048 .f32) (ix2 r q)
      = Ln.norm (Ple.row x0 x1 x2 x3 x4 x5 r) (x6 (ix2 0 q)) (x7 (ix2 0 q)) q :=
  (pay1_at _ _ _ _ (Ple.row x0 x1 x2 x3 x4 x5 r) r q (pay9_at x0 x1 x2 x3 x4 x5 x6 x7 r q) fun k => pay10_at x0 x1 x2 x3 x4 x5 x6 x7 r k).trans (by rw [pay7_at, pay8_at])

/-- A block of the result. -/
theorem out8_at (x0 : Vec Ideal S256x2048 .f32) (x1 : Vec Ideal S256x2048 .bf16) (x2 : Vec Ideal S256x2048 .f32) (x3 : Vec Ideal S256x256 .f32) (x4 : Vec Ideal S2048x2048 .bf16) (x5 : Vec Ideal S256x2048 .bf16) (x6 x7 : Vec Ideal S1x2048 .f32) (r : Fin 256) (q : Fin 2048) :
    (out0_8 (F := Ideal) x0 x1 x2 x3 x4 x5 x6 x7 : FVec Ideal S256x2048 .f32) (ix2 r q) = Ln.norm (Ple.row x0 x1 x2 x3 x4 x5 r) (x6 (ix2 0 q)) (x7 (ix2 0 q)) q := by
  unfold out0_8
  refine (Tiles2.hit (Val := Elt Ideal) (e := .f32) _ _ _ r q r q (Nat.zero_add _).symm (Nat.zero_add _).symm).trans ?_
  exact body_at x0 x1 x2 x3 x4 x5 x6 x7 r q

/-- A block of the result in bf16. -/
theorem out9_at (x0 : Vec Ideal S256x2048 .f32) (x1 : Vec Ideal S256x2048 .bf16) (x2 : Vec Ideal S256x2048 .f32) (x3 : Vec Ideal S256x256 .f32) (x4 : Vec Ideal S2048x2048 .bf16) (x5 : Vec Ideal S256x2048 .bf16) (x6 x7 : Vec Ideal S1x2048 .f32) (r : Fin 256) (q : Fin 2048) :
    (out0_9 (F := Ideal) x0 x1 x2 x3 x4 x5 x6 x7 : FVec Ideal S256x2048 .bf16) (ix2 r q) = Ln.norm (Ple.row x0 x1 x2 x3 x4 x5 r) (x6 (ix2 0 q)) (x7 (ix2 0 q)) q := by
  unfold out0_9
  refine (Tiles2.hit (Val := Elt Ideal) (e := .bf16) _ _ _ r q r q (Nat.zero_add _).symm (Nat.zero_add _).symm).trans ?_
  rw [← body_at x0 x1 x2 x3 x4 x5 x6 x7 r q]
  unfold k0_pay2
  pointwise

/-- The result's entry, of the arguments. -/
def val (i : Fin 8192) (j : Fin 2048) : EReal :=
  Ln.norm (Ple.row (m ((d : Thread nD τ).loc main_arg0) : FVec Ideal S8192x2048 .f32) (m ((d : Thread nD τ).loc main_arg0) : FVec Ideal S8192x2048 .f32)
      (m ((d : Thread nD τ).loc main_arg1) : FVec Ideal S8192x2048 .f32) (m ((d : Thread nD τ).loc main_arg2) : FVec Ideal S8192x256 .f32)
      (m ((d : Thread nD τ).loc main_arg3) : FVec Ideal S2048x2048 .f32) (m ((d : Thread nD τ).loc main_arg4) : FVec Ideal S256x2048 .f32) i)
    ((m ((d : Thread nD τ).loc main_arg5) : FVec Ideal S2048 .f32) (ix1 j)) ((m ((d : Thread nD τ).loc main_arg6) : FVec Ideal S2048 .f32) (ix1 j)) j

/-- The blocks at a point give that entry. -/
theorem blocks_val (t : Fin cfg0.N) (r : Fin 256) (i : Fin 8192) (j : Fin 2048) (hi : i.val = t.val * 256 + r.val) :
    Ln.norm (Ple.row (iblk m d 0 t : FVec Ideal S256x2048 .f32) (iblk m d 1 t : FVec Ideal S256x2048 .bf16) (iblk m d 2 t : FVec Ideal S256x2048 .f32)
      (iblk m d 3 t : FVec Ideal S256x256 .f32) (iblk m d 4 t : FVec Ideal S2048x2048 .bf16) (iblk m d 5 t : FVec Ideal S256x2048 .bf16) r)
      ((iblk m d 6 t : FVec Ideal S1x2048 .f32) (ix2 0 j)) ((iblk m d 7 t : FVec Ideal S1x2048 .f32) (ix2 0 j)) j = val m d i j := by
  unfold val
  rw [w6, w7, Ple.row_eq (fun k => w0 m d t r k i hi) (fun k => w1 m d t r k i hi) (fun k => w2 m d t r k i hi) (fun k => w3 m d t r k i hi) (w4 m d t) (w5 m d t)]

/-- The final array of output 0. -/
theorem final8 (i : Fin 8192) (j : Fin 2048) : ((dats m 0 d).arrAt 8 cfg0.N : FVec Ideal S8192x2048 .f32) (ix2 i j) = val m d i j := by
  have hN : i.val / 256 < cfg0.N := by show _ < 32; omega
  have hb := congrFun (Value.blocks8 m d ⟨_, hN⟩ ((by decide +kernel : ∀ t : Fin grid0.N, (cfg0.win 8).flush t = true) _)) (ix2 (⟨i.val % 256, Nat.mod_lt _ (by decide)⟩ : Fin 256) j)
  have ht := idx ⟨_, hN⟩
  refine Eq.trans (by blk_ext [ht]) (hb.trans ?_)
  rw [Value.flushed8]
  refine (out8_at _ _ _ _ _ _ _ _ _ _).trans (blocks_val m d _ _ i j ?_)
  show i.val = i.val / 256 * 256 + i.val % 256
  omega

/-- The final array of output 1. -/
theorem final9 (i : Fin 8192) (j : Fin 2048) : ((dats m 0 d).arrAt 9 cfg0.N : FVec Ideal S8192x2048 .bf16) (ix2 i j) = val m d i j := by
  have hN : i.val / 256 < cfg0.N := by show _ < 32; omega
  have hb := congrFun (Value.blocks9 m d ⟨_, hN⟩ ((by decide +kernel : ∀ t : Fin grid0.N, (cfg0.win 9).flush t = true) _)) (ix2 (⟨i.val % 256, Nat.mod_lt _ (by decide)⟩ : Fin 256) j)
  have ht := idx ⟨_, hN⟩
  refine Eq.trans (by blk_ext [ht]) (hb.trans ?_)
  rw [Value.flushed9]
  refine (out9_at _ _ _ _ _ _ _ _ _ _).trans (blocks_val m d _ _ i j ?_)
  show i.val = i.val / 256 * 256 + i.val % 256
  omega

end Cert.PleKernelIdeal.In

namespace Cert.PleReferenceIdeal.In

open Cert.PleReferenceIdeal Cert.PleReferenceIdeal.Gen

/-- The row that the reference normalizes. -/
theorem row_at (X0 X1 : FVec Ideal S8192x2048 .f32) (X2 : FVec Ideal S8192x256 .f32) (X3 : FVec Ideal S2048x2048 .f32) (X4 : FVec Ideal S256x2048 .f32) (i : Fin 8192) (j : Fin 2048) :
    ((addf (addf (mulf (broadcastInDim S8192x2048 ![] bcast_S_S8192x2048 (constant (F := Ideal) S_ .f32 0x3FB504F3#32)) X0) X1) (mulf (Host.divf (broadcastInDim S8192x2048 ![] bcast_S_S8192x2048 (constant (F := Ideal) S_ .f32 0x3F800000#32)) (addf (broadcastInDim S8192x2048 ![] bcast_S_S8192x2048 (constant (F := Ideal) S_ .f32 0x3F800000#32)) (Host.exp (Host.negf (Host.dotGeneral (F := Ideal) dot_S8192x2048_S2048x2048_S8192x2048_1_0_0_1_n_n none X0 X3))))) (Host.dotGeneral (F := Ideal) dot_S8192x256_S256x2048_S8192x2048_1_0_0_1_n_n none X2 X4))) : FVec Ideal S8192x2048 .f32) (ix2 i j)
      = Ple.row X0 X0 X1 X2 X3 X4 i j := by
  pointwise
  rfl

/-- What the reference makes of a row. -/
theorem norm_at (U : FVec Ideal S8192x2048 .f32) (G B : FVec Ideal S2048 .f32) (u : Fin 2048 → EReal) (i : Fin 8192) (j : Fin 2048) (hu : ∀ k, U (ix2 i k) = u k) :
    (addf (mulf (mulf (subf U (broadcastInDim S8192x2048 ![0, 1] bcast_S8192x1_S8192x2048_0_1 (Host.divf (broadcastInDim S8192x1 ![0] bcast_S8192_S8192x1_0 (Host.reduceAdd U (constant (F := Ideal) S_ .f32 0x00000000#32) reducesTo_S8192x2048_S8192_d1 h_S_)) (broadcastInDim S8192x1 ![] bcast_S_S8192x1 (constant (F := Ideal) S_ .f32 0x45000000#32))))) (broadcastInDim S8192x2048 ![0, 1] bcast_S8192x1_S8192x2048_0_1 (Host.rsqrt (addf (Host.divf (broadcastInDim S8192x1 ![0] bcast_S8192_S8192x1_0 (Host.reduceAdd (mulf (subf U (broadcastInDim S8192x2048 ![0, 1] bcast_S8192x1_S8192x2048_0_1 (Host.divf (broadcastInDim S8192x1 ![0] bcast_S8192_S8192x1_0 (Host.reduceAdd U (constant (F := Ideal) S_ .f32 0x00000000#32) reducesTo_S8192x2048_S8192_d1 h_S_)) (broadcastInDim S8192x1 ![] bcast_S_S8192x1 (constant (F := Ideal) S_ .f32 0x45000000#32))))) (subf U (broadcastInDim S8192x2048 ![0, 1] bcast_S8192x1_S8192x2048_0_1 (Host.divf (broadcastInDim S8192x1 ![0] bcast_S8192_S8192x1_0 (Host.reduceAdd U (constant (F := Ideal) S_ .f32 0x00000000#32) reducesTo_S8192x2048_S8192_d1 h_S_)) (broadcastInDim S8192x1 ![] bcast_S_S8192x1 (constant (F := Ideal) S_ .f32 0x45000000#32)))))) (constant (F := Ideal) S_ .f32 0x00000000#32) reducesTo_S8192x2048_S8192_d1 h_S_)) (broadcastInDim S8192x1 ![] bcast_S_S8192x1 (constant (F := Ideal) S_ .f32 0x45000000#32))) (broadcastInDim S8192x1 ![] bcast_S_S8192x1 (constant (F := Ideal) S_ .f32 0x3727C5AC#32)))))) (broadcastInDim S8192x2048 ![0, 1] bcast_S1x2048_S8192x2048_0_1 (broadcastInDim S1x2048 ![1] bcast_S2048_S1x2048_1 G))) (broadcastInDim S8192x2048 ![0, 1] bcast_S1x2048_S8192x2048_0_1 (broadcastInDim S1x2048 ![1] bcast_S2048_S1x2048_1 B)) : FVec Ideal S8192x2048 .f32) (ix2 i j)
      = Ln.norm u (G (ix1 j)) (B (ix1 j)) j := by
  pointwise
  simp only [hu]
  rfl

/-- The reference's result 0. -/
theorem res0_at (m : (ℓ : Loc nD τ sig) → Buf (Elt Ideal) ℓ) (c : Dev nD) (i : Fin 8192) (j : Fin 2048) :
    (Value.res_main_v36 m c : FVec Ideal S8192x2048 .f32) (ix2 i j)
      = Ln.norm (Ple.row (m ((c.tc : Thread nD τ).loc main_arg0) : FVec Ideal S8192x2048 .f32) (m ((c.tc : Thread nD τ).loc main_arg0) : FVec Ideal S8192x2048 .f32) (m ((c.tc : Thread nD τ).loc main_arg1) : FVec Ideal S8192x2048 .f32)
          (m ((c.tc : Thread nD τ).loc main_arg2) : FVec Ideal S8192x256 .f32) (m ((c.tc : Thread nD τ).loc main_arg3) : FVec Ideal S2048x2048 .f32) (m ((c.tc : Thread nD τ).loc main_arg4) : FVec Ideal S256x2048 .f32) i)
        ((m ((c.tc : Thread nD τ).loc main_arg5) : FVec Ideal S2048 .f32) (ix1 j)) ((m ((c.tc : Thread nD τ).loc main_arg6) : FVec Ideal S2048 .f32) (ix1 j)) j :=
  norm_at _ _ _ _ i j fun k => row_at _ _ _ _ _ i k

/-- The reference's result 1. -/
theorem res1_at (m : (ℓ : Loc nD τ sig) → Buf (Elt Ideal) ℓ) (c : Dev nD) (i : Fin 8192) (j : Fin 2048) :
    (Value.res_main_v37 m c : FVec Ideal S8192x2048 .bf16) (ix2 i j)
      = Ln.norm (Ple.row (m ((c.tc : Thread nD τ).loc main_arg0) : FVec Ideal S8192x2048 .f32) (m ((c.tc : Thread nD τ).loc main_arg0) : FVec Ideal S8192x2048 .f32) (m ((c.tc : Thread nD τ).loc main_arg1) : FVec Ideal S8192x2048 .f32)
          (m ((c.tc : Thread nD τ).loc main_arg2) : FVec Ideal S8192x256 .f32) (m ((c.tc : Thread nD τ).loc main_arg3) : FVec Ideal S2048x2048 .f32) (m ((c.tc : Thread nD τ).loc main_arg4) : FVec Ideal S256x2048 .f32) i)
        ((m ((c.tc : Thread nD τ).loc main_arg5) : FVec Ideal S2048 .f32) (ix1 j)) ((m ((c.tc : Thread nD τ).loc main_arg6) : FVec Ideal S2048 .f32) (ix1 j)) j :=
  Eq.trans (b := (Value.res_main_v36 m c : FVec Ideal S8192x2048 .f32) (ix2 i j)) rfl (res0_at m c i j)

end Cert.PleReferenceIdeal.In

namespace Cert.Proof

/-- The reference leaves its arguments alone, and has no semaphores. -/
theorem ple_quiet : Cert.quiescent_PleReferenceIdeal := by
  intro m g _
  refine (θ_run _ _ _).mono (fun r h => ?_) (Cert.PleReferenceIdeal.Value.run m g)
  exact ⟨fun c => (h c).2.2, sem_eq_zero_of_no_sems rfl _⟩

/-- The call's results are the reference's. -/
theorem ple_algebraic : Cert.algebraic_PleKernelIdeal_PleReferenceIdeal := by
  pair_intro
  · run_from Cert.PleKernelIdeal.Value.run_blocks m g
  · run_from Cert.PleReferenceIdeal.Value.run m' g'
    · refine Lin.ext fun (i : Fin 8192) (j : Fin 2048) => ?_
      refine Eq.trans (Cert.PleReferenceIdeal.In.res0_at m' c i j) (Eq.trans ?_ (Cert.PleKernelIdeal.In.final8 m c i j).symm)
      obtain ⟨h0, h1, h2, h3, h4, h5, h6⟩ := hagree c
      rw [h0, h1, h2, h3, h4, h5, h6]
      rfl
    · refine Lin.ext fun (i : Fin 8192) (j : Fin 2048) => ?_
      refine Eq.trans (Cert.PleReferenceIdeal.In.res1_at m' c i j) (Eq.trans ?_ (Cert.PleKernelIdeal.In.final9 m c i j).symm)
      obtain ⟨h0, h1, h2, h3, h4, h5, h6⟩ := hagree c
      rw [h0, h1, h2, h3, h4, h5, h6]
      rfl

end Cert.Proof
-- ==== Proof.Out.lean ====
/-
  The output projection: the recurrence's and the attention's results against the weights, the residual added, each row normalized.
-/
module

public import proofs.«01_k».proof.Proof.Gen.OutKernel.Frame
public import proofs.«01_k».proof.Proof.Gen.OutKernelIdeal.Frame
public import proofs.«01_k».proof.Proof.Gen.OutKernelIdeal.Value
public import proofs.«01_k».proof.Proof.Gen.OutReferenceIdeal.Run
public import proofs.«01_k».proof.Proof.Ple

@[expose] public section

set_option maxRecDepth 16384

noncomputable section

open Idealize.ShloMosaic Idealize.ShloMosaic.TcCoe Idealize.SL.Sem

namespace Out

/-- The upper half of the weights' rows. -/
def upper (w : (⟨2, ![2048, 2048]⟩ : Shape).Idx → EReal) : (⟨2, ![1024, 2048]⟩ : Shape).Idx → EReal := fun q => w (ix2 (⟨(q 0).val, Nat.lt_trans (q 0).isLt (by decide)⟩ : Fin 2048) (q 1))

/-- The lower half. -/
def lower (w : (⟨2, ![2048, 2048]⟩ : Shape).Idx → EReal) : (⟨2, ![1024, 2048]⟩ : Shape).Idx → EReal := fun q => w (ix2 (⟨1024 + (q 0).val, Nat.add_lt_add_left (q 0).isLt 1024⟩ : Fin 2048) (q 1))

/-- The row that is normalized, of matrices of any number of rows. -/
def row {M : ℕ} (y a : (⟨2, ![M, 1024]⟩ : Shape).Idx → EReal) (h : (⟨2, ![M, 2048]⟩ : Shape).Idx → EReal) (w1 w2 : (⟨2, ![1024, 2048]⟩ : Shape).Idx → EReal) (i : Fin M) (j : Fin 2048) : EReal :=
  Ideal.ofBits .f32 0x3FB504F3#32 * h (ix2 i j) + (Lin.dot y w1 i j + Lin.dot a w2 i j)

/-- Rows of equal entries are equal. -/
theorem row_eq {M M' : ℕ} {y a : (⟨2, ![M, 1024]⟩ : Shape).Idx → EReal} {h : (⟨2, ![M, 2048]⟩ : Shape).Idx → EReal} {w1 w2 : (⟨2, ![1024, 2048]⟩ : Shape).Idx → EReal}
    {y' a' : (⟨2, ![M', 1024]⟩ : Shape).Idx → EReal} {h' : (⟨2, ![M', 2048]⟩ : Shape).Idx → EReal} {w1' w2' : (⟨2, ![1024, 2048]⟩ : Shape).Idx → EReal} {i : Fin M} {i' : Fin M'}
    (hy : ∀ k, y (ix2 i k) = y' (ix2 i' k)) (ha : ∀ k, a (ix2 i k) = a' (ix2 i' k)) (hh : ∀ k, h (ix2 i k) = h' (ix2 i' k))
    (h1 : ∀ k j, w1 (ix2 k j) = w1' (ix2 k j)) (h2 : ∀ k j, w2 (ix2 k j) = w2' (ix2 k j)) : row y a h w1 w2 i = row y' a' h' w1' w2' i' := funext fun j => by
  unfold row
  rw [hh, Lin.dot_eq (j' := j) hy fun k => h1 k j, Lin.dot_eq (j' := j) ha fun k => h2 k j]

end Out

namespace Cert.OutKernelIdeal.In

open Cert.OutKernelIdeal Cert.OutKernelIdeal.Gen
open Cert.PleKernelIdeal.In (ld_eq)

/-- What the kernel makes of its blocks. -/
theorem pay4_at (y : Vec Ideal S256x1024 .bf16) (w1 : Vec Ideal S1024x2048 .bf16) (a : Vec Ideal S256x1024 .bf16) (w2 : Vec Ideal S1024x2048 .bf16) (h : Vec Ideal S256x2048 .f32)
    (g b : Vec Ideal S1x2048 .f32) (r : Fin 256) (q : Fin 2048) :
    (k0_pay4 (F := Ideal) y w1 a w2 h g b : FVec Ideal S256x2048 .f32) (ix2 r q) = Ln.norm (Out.row y a h w1 w2 r) (g (ix2 0 q)) (b (ix2 0 q)) q := by
  unfold k0_pay4
  pointwise
  rfl

/-- What the body makes of the windows' blocks. -/
theorem body_at (x0 x1 : Vec Ideal S256x1024 .bf16) (x2 x3 : Vec Ideal S1024x2048 .bf16) (x4 : Vec Ideal S256x2048 .f32) (x5 x6 : Vec Ideal S1x2048 .f32) (x7 : Vec Ideal S32x2048 .f32) (x8 : Vec Ideal S32x1 .f32) (r : Fin 256) (q : Fin 2048) :
    (k0_pay136 (F := Ideal) x0 x1 x2 x3 x4 x5 x6 x7 x8 : FVec Ideal S256x2048 .f32) (ix2 r q) = Ln.norm (Out.row x0 x1 x4 x2 x3 r) (x5 (ix2 0 q)) (x6 (ix2 0 q)) q := by
  refine (pay4_at _ _ _ _ _ _ _ r q).trans ?_
  refine (congrArg (fun u => Ln.norm u _ _ q) (Out.row_eq (fun _ => congrFun (ld_eq _ _) _) (fun _ => congrFun (ld_eq _ _) _) (fun _ => congrFun (ld_eq _ _) _)
    (fun _ _ => congrFun (ld_eq _ _) _) fun _ _ => congrFun (ld_eq _ _) _)).trans ?_
  exact congrArg₂ (fun g b => Ln.norm _ g b q) (congrFun (ld_eq _ _) _) (congrFun (ld_eq _ _) _)

/-- A block of the result. -/
theorem out9_at (x0 x1 : Vec Ideal S256x1024 .bf16) (x2 x3 : Vec Ideal S1024x2048 .bf16) (x4 : Vec Ideal S256x2048 .f32) (x5 x6 : Vec Ideal S1x2048 .f32) (x7 : Vec Ideal S32x2048 .f32) (x8 : Vec Ideal S32x1 .f32) (r : Fin 256) (q : Fin 2048) :
    (out0_9 (F := Ideal) x0 x1 x2 x3 x4 x5 x6 x7 x8 : FVec Ideal S256x2048 .f32) (ix2 r q) = Ln.norm (Out.row x0 x1 x4 x2 x3 r) (x5 (ix2 0 q)) (x6 (ix2 0 q)) q := by
  unfold out0_9
  refine (Tiles2.hit (Val := Elt Ideal) (e := .f32) _ _ _ r q r q (Nat.zero_add _).symm (Nat.zero_add _).symm).trans ?_
  exact body_at x0 x1 x2 x3 x4 x5 x6 x7 x8 r q

/-- A block of the result in bf16. -/
theorem out10_at (x0 x1 : Vec Ideal S256x1024 .bf16) (x2 x3 : Vec Ideal S1024x2048 .bf16) (x4 : Vec Ideal S256x2048 .f32) (x5 x6 : Vec Ideal S1x2048 .f32) (x7 : Vec Ideal S32x2048 .f32) (x8 : Vec Ideal S32x1 .f32) (r : Fin 256) (q : Fin 2048) :
    (out0_10 (F := Ideal) x0 x1 x2 x3 x4 x5 x6 x7 x8 : FVec Ideal S256x2048 .bf16) (ix2 r q) = Ln.norm (Out.row x0 x1 x4 x2 x3 r) (x5 (ix2 0 q)) (x6 (ix2 0 q)) q := by
  unfold out0_10
  refine (Tiles2.hit (Val := Elt Ideal) (e := .bf16) _ _ _ r q r q (Nat.zero_add _).symm (Nat.zero_add _).symm).trans ?_
  rw [← body_at x0 x1 x2 x3 x4 x5 x6 x7 x8 r q]
  unfold k0_pay5
  pointwise

variable (m : (ℓ : Loc nD τ sig) → Buf (Elt Ideal) ℓ) (d : Dev nD)

/-- The windows' block indices at every grid point. -/
theorem idx : ∀ t : Fin cfg0.N, win0_0.index t = ![t.val, 0] ∧ win0_1.index t = ![t.val, 0] ∧ win0_2.index t = ![0, 0] ∧ win0_3.index t = ![1, 0]
    ∧ win0_4.index t = ![t.val, 0] ∧ win0_5.index t = ![0, 0] ∧ win0_6.index t = ![0, 0] ∧ win0_9.index t = ![t.val, 0] ∧ win0_10.index t = ![t.val, 0] :=
  (by decide +kernel : ∀ t : Fin grid0.N, _)

/-- The recurrence's result at a point. -/
theorem w0 (t : Fin cfg0.N) (r : Fin 256) (k : Fin 1024) (i : Fin 8192) (hi : i.val = t.val * 256 + r.val) :
    (iblk m d 0 t : FVec Ideal S256x1024 .bf16) (ix2 r k) = (m ((d : Thread nD τ).loc main_arg0) : FVec Ideal S8192x1024 .bf16) (ix2 i k) := by
  refine Eq.trans (b := (V m d (Pipeline.arrRef spec0 0) : FVec Ideal S8192x1024 .bf16) (ix2 i k)) (by blk_ext [iblk, idx t, hi]) ?_
  unfold_abbrev_sides
  simp only [hostOps0, List.flatten_cons, List.flatten_nil, List.cons_append, List.nil_append]
  after_reads_simp

/-- The attention's result at a point. -/
theorem w1 (t : Fin cfg0.N) (r : Fin 256) (k : Fin 1024) (i : Fin 8192) (hi : i.val = t.val * 256 + r.val) :
    (iblk m d 1 t : FVec Ideal S256x1024 .bf16) (ix2 r k) = (m ((d : Thread nD τ).loc main_arg1) : FVec Ideal S8192x1024 .bf16) (ix2 i k) := by
  refine Eq.trans (b := (V m d (Pipeline.arrRef spec0 1) : FVec Ideal S8192x1024 .bf16) (ix2 i k)) (by blk_ext [iblk, idx t, hi]) ?_
  unfold_abbrev_sides
  simp only [hostOps0, List.flatten_cons, List.flatten_nil, List.cons_append, List.nil_append]
  after_reads_simp

/-- The upper half of the weights. -/
theorem w2 (t : Fin cfg0.N) (k : Fin 1024) (j : Fin 2048) (n : Fin 2048) (hn : n.val = k.val) :
    (iblk m d 2 t : FVec Ideal S1024x2048 .bf16) (ix2 k j) = (m ((d : Thread nD τ).loc main_arg2) : FVec Ideal S2048x2048 .f32) (ix2 n j) := by
  refine Eq.trans (b := (V m d (Pipeline.arrRef spec0 2) : FVec Ideal S2048x2048 .bf16) (ix2 n j)) (by blk_ext [iblk, idx t, hn]) ?_
  unfold_abbrev_sides
  simp only [hostOps0, List.flatten_cons, List.flatten_nil, List.cons_append, List.nil_append]
  after_reads_simp
  pointwise

/-- The lower half of the weights. -/
theorem w3 (t : Fin cfg0.N) (k : Fin 1024) (j : Fin 2048) (n : Fin 2048) (hn : n.val = 1024 + k.val) :
    (iblk m d 3 t : FVec Ideal S1024x2048 .bf16) (ix2 k j) = (m ((d : Thread nD τ).loc main_arg2) : FVec Ideal S2048x2048 .f32) (ix2 n j) := by
  refine Eq.trans (b := (V m d (Pipeline.arrRef spec0 3) : FVec Ideal S2048x2048 .bf16) (ix2 n j)) (by blk_ext [iblk, idx t, hn]) ?_
  unfold_abbrev_sides
  simp only [hostOps0, List.flatten_cons, List.flatten_nil, List.cons_append, List.nil_append]
  after_reads_simp
  pointwise

/-- The residual at a point. -/
theorem w4 (t : Fin cfg0.N) (r : Fin 256) (k : Fin 2048) (i : Fin 8192) (hi : i.val = t.val * 256 + r.val) :
    (iblk m d 4 t : FVec Ideal S256x2048 .f32) (ix2 r k) = (m ((d : Thread nD τ).loc main_arg3) : FVec Ideal S8192x2048 .f32) (ix2 i k) := by
  refine Eq.trans (b := (V m d (Pipeline.arrRef spec0 4) : FVec Ideal S8192x2048 .f32) (ix2 i k)) (by blk_ext [iblk, idx t, hi]) ?_
  unfold_abbrev_sides
  simp only [hostOps0, List.flatten_cons, List.flatten_nil, List.cons_append, List.nil_append]
  after_reads_simp

/-- The normalization's factors. -/
theorem w5 (t : Fin cfg0.N) (j : Fin 2048) :
    (iblk m d 5 t : FVec Ideal S1x2048 .f32) (ix2 0 j) = (m ((d : Thread nD τ).loc main_arg4) : FVec Ideal S2048 .f32) (ix1 j) := by
  refine Eq.trans (b := (V m d (Pipeline.arrRef spec0 5) : FVec Ideal S1x2048 .f32) (ix2 0 j)) (by blk_ext [iblk, idx t]) ?_
  unfold_abbrev_sides
  simp only [hostOps0, List.flatten_cons, List.flatten_nil, List.cons_append, List.nil_append]
  after_reads_simp
  pointwise

/-- The normalization's offsets. -/
theorem w6 (t : Fin cfg0.N) (j : Fin 2048) :
    (iblk m d 6 t : FVec Ideal S1x2048 .f32) (ix2 0 j) = (m ((d : Thread nD τ).loc main_arg5) : FVec Ideal S2048 .f32) (ix1 j) := by
  refine Eq.trans (b := (V m d (Pipeline.arrRef spec0 6) : FVec Ideal S1x2048 .f32) (ix2 0 j)) (by blk_ext [iblk, idx t]) ?_
  unfold_abbrev_sides
  simp only [hostOps0, List.flatten_cons, List.flatten_nil, List.cons_append, List.nil_append]
  after_reads_simp
  pointwise

/-- The result's entry, of the arguments. -/
def val (i : Fin 8192) (j : Fin 2048) : EReal :=
  Ln.norm (Out.row (m ((d : Thread nD τ).loc main_arg0) : FVec Ideal S8192x1024 .bf16) (m ((d : Thread nD τ).loc main_arg1) : FVec Ideal S8192x1024 .bf16) (m ((d : Thread nD τ).loc main_arg3) : FVec Ideal S8192x2048 .f32)
      (Out.upper (m ((d : Thread nD τ).loc main_arg2) : FVec Ideal S2048x2048 .f32)) (Out.lower (m ((d : Thread nD τ).loc main_arg2) : FVec Ideal S2048x2048 .f32)) i)
    ((m ((d : Thread nD τ).loc main_arg4) : FVec Ideal S2048 .f32) (ix1 j)) ((m ((d : Thread nD τ).loc main_arg5) : FVec Ideal S2048 .f32) (ix1 j)) j

/-- The blocks at a point give that entry. -/
theorem blocks_val (t : Fin cfg0.N) (r : Fin 256) (i : Fin 8192) (j : Fin 2048) (hi : i.val = t.val * 256 + r.val) :
    Ln.norm (Out.row (iblk m d 0 t : FVec Ideal S256x1024 .bf16) (iblk m d 1 t : FVec Ideal S256x1024 .bf16) (iblk m d 4 t : FVec Ideal S256x2048 .f32)
      (iblk m d 2 t : FVec Ideal S1024x2048 .bf16) (iblk m d 3 t : FVec Ideal S1024x2048 .bf16) r)
      ((iblk m d 5 t : FVec Ideal S1x2048 .f32) (ix2 0 j)) ((iblk m d 6 t : FVec Ideal S1x2048 .f32) (ix2 0 j)) j = val m d i j := by
  unfold val
  rw [w5, w6, Out.row_eq (fun k => w0 m d t r k i hi) (fun k => w1 m d t r k i hi) (fun k => w4 m d t r k i hi)
    (w1' := Out.upper _) (w2' := Out.lower _) (fun k j => w2 m d t k j _ rfl) (fun k j => w3 m d t k j _ rfl)]

/-- The final array of output 0. -/
theorem final9 (i : Fin 8192) (j : Fin 2048) : ((dats m 0 d).arrAt 9 cfg0.N : FVec Ideal S8192x2048 .f32) (ix2 i j) = val m d i j := by
  have hN : i.val / 256 < cfg0.N := by show _ < 32; omega
  have hb := congrFun (Value.blocks9 m d ⟨_, hN⟩ ((by decide +kernel : ∀ t : Fin grid0.N, (cfg0.win 9).flush t = true) _)) (ix2 (⟨i.val % 256, Nat.mod_lt _ (by decide)⟩ : Fin 256) j)
  have ht := idx ⟨_, hN⟩
  refine Eq.trans (by blk_ext [ht]) (hb.trans ?_)
  rw [Value.flushed9]
  refine (out9_at _ _ _ _ _ _ _ _ _ _ _).trans (blocks_val m d _ _ i j ?_)
  show i.val = i.val / 256 * 256 + i.val % 256
  omega

/-- The final array of output 1. -/
theorem final10 (i : Fin 8192) (j : Fin 2048) : ((dats m 0 d).arrAt 10 cfg0.N : FVec Ideal S8192x2048 .bf16) (ix2 i j) = val m d i j := by
  have hN : i.val / 256 < cfg0.N := by show _ < 32; omega
  have hb := congrFun (Value.blocks10 m d ⟨_, hN⟩ ((by decide +kernel : ∀ t : Fin grid0.N, (cfg0.win 10).flush t = true) _)) (ix2 (⟨i.val % 256, Nat.mod_lt _ (by decide)⟩ : Fin 256) j)
  have ht := idx ⟨_, hN⟩
  refine Eq.trans (by blk_ext [ht]) (hb.trans ?_)
  rw [Value.flushed10]
  refine (out10_at _ _ _ _ _ _ _ _ _ _ _).trans (blocks_val m d _ _ i j ?_)
  show i.val = i.val / 256 * 256 + i.val % 256
  omega

end Cert.OutKernelIdeal.In

namespace Cert.OutReferenceIdeal.In

open Cert.OutReferenceIdeal Cert.OutReferenceIdeal.Gen

/-- The row that the reference normalizes. -/
theorem row_at (X0 X1 : FVec Ideal S8192x1024 .bf16) (X2 : FVec Ideal S2048x2048 .f32) (X3 : FVec Ideal S8192x2048 .f32) (i : Fin 8192) (j : Fin 2048) :
    ((addf (mulf (broadcastInDim S8192x2048 ![] bcast_S_S8192x2048 (constant (F := Ideal) S_ .f32 0x3FB504F3#32)) X3) (Host.dotGeneral (F := Ideal) dot_S8192x2048_S2048x2048_S8192x2048_1_0_0_1_n_n none (concatenate S8192x2048 1 [⟨S8192x1024, (extf .f32 X0 bitsLt_bf16_f32)⟩, ⟨S8192x1024, (extf .f32 X1 bitsLt_bf16_f32)⟩] concatenates_S8192x1024_S8192x1024_S8192x2048_d1) X2)) : FVec Ideal S8192x2048 .f32) (ix2 i j)
      = Out.row X0 X1 X3 (Out.upper X2) (Out.lower X2) i j := by
  pointwise
  rfl

/-- What the reference makes of a row. -/
theorem norm_at (U : FVec Ideal S8192x2048 .f32) (G B : FVec Ideal S2048 .f32) (u : Fin 2048 → EReal) (i : Fin 8192) (j : Fin 2048) (hu : ∀ k, U (ix2 i k) = u k) :
    (addf (mulf (mulf (subf U (broadcastInDim S8192x2048 ![0, 1] bcast_S8192x1_S8192x2048_0_1 (Host.divf (broadcastInDim S8192x1 ![0] bcast_S8192_S8192x1_0 (Host.reduceAdd U (constant (F := Ideal) S_ .f32 0x00000000#32) reducesTo_S8192x2048_S8192_d1 h_S_)) (broadcastInDim S8192x1 ![] bcast_S_S8192x1 (constant (F := Ideal) S_ .f32 0x45000000#32))))) (broadcastInDim S8192x2048 ![0, 1] bcast_S8192x1_S8192x2048_0_1 (Host.rsqrt (addf (Host.divf (broadcastInDim S8192x1 ![0] bcast_S8192_S8192x1_0 (Host.reduceAdd (mulf (subf U (broadcastInDim S8192x2048 ![0, 1] bcast_S8192x1_S8192x2048_0_1 (Host.divf (broadcastInDim S8192x1 ![0] bcast_S8192_S8192x1_0 (Host.reduceAdd U (constant (F := Ideal) S_ .f32 0x00000000#32) reducesTo_S8192x2048_S8192_d1 h_S_)) (broadcastInDim S8192x1 ![] bcast_S_S8192x1 (constant (F := Ideal) S_ .f32 0x45000000#32))))) (subf U (broadcastInDim S8192x2048 ![0, 1] bcast_S8192x1_S8192x2048_0_1 (Host.divf (broadcastInDim S8192x1 ![0] bcast_S8192_S8192x1_0 (Host.reduceAdd U (constant (F := Ideal) S_ .f32 0x00000000#32) reducesTo_S8192x2048_S8192_d1 h_S_)) (broadcastInDim S8192x1 ![] bcast_S_S8192x1 (constant (F := Ideal) S_ .f32 0x45000000#32)))))) (constant (F := Ideal) S_ .f32 0x00000000#32) reducesTo_S8192x2048_S8192_d1 h_S_)) (broadcastInDim S8192x1 ![] bcast_S_S8192x1 (constant (F := Ideal) S_ .f32 0x45000000#32))) (broadcastInDim S8192x1 ![] bcast_S_S8192x1 (constant (F := Ideal) S_ .f32 0x3727C5AC#32)))))) (broadcastInDim S8192x2048 ![0, 1] bcast_S1x2048_S8192x2048_0_1 (broadcastInDim S1x2048 ![1] bcast_S2048_S1x2048_1 G))) (broadcastInDim S8192x2048 ![0, 1] bcast_S1x2048_S8192x2048_0_1 (broadcastInDim S1x2048 ![1] bcast_S2048_S1x2048_1 B)) : FVec Ideal S8192x2048 .f32) (ix2 i j)
      = Ln.norm u (G (ix1 j)) (B (ix1 j)) j := by
  pointwise
  simp only [hu]
  rfl

/-- The reference's result 0. -/
theorem res0_at (m : (ℓ : Loc nD τ sig) → Buf (Elt Ideal) ℓ) (c : Dev nD) (i : Fin 8192) (j : Fin 2048) :
    (Value.res_main_v30 m c : FVec Ideal S8192x2048 .f32) (ix2 i j) = Ln.norm (Out.row (m ((c.tc : Thread nD τ).loc main_arg0) : FVec Ideal S8192x1024 .bf16) (m ((c.tc : Thread nD τ).loc main_arg1) : FVec Ideal S8192x1024 .bf16) (m ((c.tc : Thread nD τ).loc main_arg3) : FVec Ideal S8192x2048 .f32)
      (Out.upper (m ((c.tc : Thread nD τ).loc main_arg2) : FVec Ideal S2048x2048 .f32)) (Out.lower (m ((c.tc : Thread nD τ).loc main_arg2) : FVec Ideal S2048x2048 .f32)) i)
    ((m ((c.tc : Thread nD τ).loc main_arg4) : FVec Ideal S2048 .f32) (ix1 j)) ((m ((c.tc : Thread nD τ).loc main_arg5) : FVec Ideal S2048 .f32) (ix1 j)) j :=
  norm_at _ _ _ _ i j fun k => row_at _ _ _ _ i k

/-- The reference's result 1. -/
theorem res1_at (m : (ℓ : Loc nD τ sig) → Buf (Elt Ideal) ℓ) (c : Dev nD) (i : Fin 8192) (j : Fin 2048) :
    (Value.res_main_v31 m c : FVec Ideal S8192x2048 .bf16) (ix2 i j) = Ln.norm (Out.row (m ((c.tc : Thread nD τ).loc main_arg0) : FVec Ideal S8192x1024 .bf16) (m ((c.tc : Thread nD τ).loc main_arg1) : FVec Ideal S8192x1024 .bf16) (m ((c.tc : Thread nD τ).loc main_arg3) : FVec Ideal S8192x2048 .f32)
      (Out.upper (m ((c.tc : Thread nD τ).loc main_arg2) : FVec Ideal S2048x2048 .f32)) (Out.lower (m ((c.tc : Thread nD τ).loc main_arg2) : FVec Ideal S2048x2048 .f32)) i)
    ((m ((c.tc : Thread nD τ).loc main_arg4) : FVec Ideal S2048 .f32) (ix1 j)) ((m ((c.tc : Thread nD τ).loc main_arg5) : FVec Ideal S2048 .f32) (ix1 j)) j :=
  Eq.trans (b := (Value.res_main_v30 m c : FVec Ideal S8192x2048 .f32) (ix2 i j)) rfl (res0_at m c i j)

end Cert.OutReferenceIdeal.In

namespace Cert.Proof

/-- The reference leaves its arguments alone, and has no semaphores. -/
theorem out_quiet : Cert.quiescent_OutReferenceIdeal := by
  intro m g _
  refine (θ_run _ _ _).mono (fun r h => ?_) (Cert.OutReferenceIdeal.Value.run m g)
  exact ⟨fun c => (h c).2.2, sem_eq_zero_of_no_sems rfl _⟩

/-- The call's results are the reference's. -/
theorem out_algebraic : Cert.algebraic_OutKernelIdeal_OutReferenceIdeal := by
  pair_intro
  · run_from Cert.OutKernelIdeal.Value.run_blocks m g
  · run_from Cert.OutReferenceIdeal.Value.run m' g'
    · refine Lin.ext fun (i : Fin 8192) (j : Fin 2048) => ?_
      refine Eq.trans (Cert.OutReferenceIdeal.In.res0_at m' c i j) (Eq.trans ?_ (Cert.OutKernelIdeal.In.final9 m c i j).symm)
      obtain ⟨h0, h1, h2, h3, h4, h5, _⟩ := hagree c
      rw [h0, h1, h2, h3, h4, h5]
      rfl
    · refine Lin.ext fun (i : Fin 8192) (j : Fin 2048) => ?_
      refine Eq.trans (Cert.OutReferenceIdeal.In.res1_at m' c i j) (Eq.trans ?_ (Cert.OutKernelIdeal.In.final10 m c i j).symm)
      obtain ⟨h0, h1, h2, h3, h4, h5, _⟩ := hagree c
      rw [h0, h1, h2, h3, h4, h5]
      rfl

end Cert.Proof
-- ==== Proof.lean ====
/-
  The certificate: the frames of the three programs, the idealization's preservation, and the algebraic claim,
  which says that the kernel and the reference leave the same real numbers in the result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ZaKernel
public import proofs.«01_k».proof.Proof.Gen.ZaKernel.Skeleton
public import proofs.«01_k».proof.Proof.Gen.ZaKernel.Launch
public import proofs.«01_k».proof.Proof.Gen.ZaKernel.Points
public import proofs.«01_k».proof.Proof.Gen.ZaKernel.Frame
public import proofs.«01_k».proof.Proof.Gen.ZaKernelIdeal
public import proofs.«01_k».proof.Proof.Gen.ZaKernelIdeal.Skeleton
public import proofs.«01_k».proof.Proof.Gen.ZaKernelIdeal.Launch
public import proofs.«01_k».proof.Proof.Gen.ZaKernelIdeal.Points
public import proofs.«01_k».proof.Proof.Gen.ZaKernelIdeal.Frame
public import proofs.«01_k».proof.Proof.Gen.ZaKernelIdeal.Value
public import proofs.«01_k».proof.Proof.Gen.ZaReferenceIdeal
public import proofs.«01_k».proof.Proof.Gen.ZaReferenceIdeal.Run
public import proofs.«01_k».proof.Proof.Gen.QkviKernel
public import proofs.«01_k».proof.Proof.Gen.QkviKernel.Skeleton
public import proofs.«01_k».proof.Proof.Gen.QkviKernel.Launch
public import proofs.«01_k».proof.Proof.Gen.QkviKernel.Points
public import proofs.«01_k».proof.Proof.Gen.QkviKernel.Frame
public import proofs.«01_k».proof.Proof.Gen.QkviKernelIdeal
public import proofs.«01_k».proof.Proof.Gen.QkviKernelIdeal.Skeleton
public import proofs.«01_k».proof.Proof.Gen.QkviKernelIdeal.Launch
public import proofs.«01_k».proof.Proof.Gen.QkviKernelIdeal.Points
public import proofs.«01_k».proof.Proof.Gen.QkviKernelIdeal.Frame
public import proofs.«01_k».proof.Proof.Gen.QkviKernelIdeal.Value
public import proofs.«01_k».proof.Proof.Gen.QkviReferenceIdeal
public import proofs.«01_k».proof.Proof.Gen.QkviReferenceIdeal.Run
public import proofs.«01_k».proof.Proof.Gen.SmKernel
public import proofs.«01_k».proof.Proof.Gen.SmKernel.Skeleton
public import proofs.«01_k».proof.Proof.Gen.SmKernel.Launch
public import proofs.«01_k».proof.Proof.Gen.SmKernel.Points
public import proofs.«01_k».proof.Proof.Gen.SmKernel.Frame
public import proofs.«01_k».proof.Proof.Gen.SmKernelIdeal
public import proofs.«01_k».proof.Proof.Gen.SmKernelIdeal.Skeleton
public import proofs.«01_k».proof.Proof.Gen.SmKernelIdeal.Launch
public import proofs.«01_k».proof.Proof.Gen.SmKernelIdeal.Points
public import proofs.«01_k».proof.Proof.Gen.SmKernelIdeal.Frame
public import proofs.«01_k».proof.Proof.Gen.SmKernelIdeal.Value
public import proofs.«01_k».proof.Proof.Gen.SmReferenceIdeal
public import proofs.«01_k».proof.Proof.Gen.SmReferenceIdeal.Run
public import proofs.«01_k».proof.Proof.Gen.PleKernel
public import proofs.«01_k».proof.Proof.Gen.PleKernel.Skeleton
public import proofs.«01_k».proof.Proof.Gen.PleKernel.Launch
public import proofs.«01_k».proof.Proof.Gen.PleKernel.Points
public import proofs.«01_k».proof.Proof.Gen.PleKernel.Frame
public import proofs.«01_k».proof.Proof.Gen.PleKernelIdeal
public import proofs.«01_k».proof.Proof.Gen.PleKernelIdeal.Skeleton
public import proofs.«01_k».proof.Proof.Gen.PleKernelIdeal.Launch
public import proofs.«01_k».proof.Proof.Gen.PleKernelIdeal.Points
public import proofs.«01_k».proof.Proof.Gen.PleKernelIdeal.Frame
public import proofs.«01_k».proof.Proof.Gen.PleKernelIdeal.Value
public import proofs.«01_k».proof.Proof.Gen.PleReferenceIdeal
public import proofs.«01_k».proof.Proof.Gen.PleReferenceIdeal.Run
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import Idealize.ShloMosaic.Lib.Claim
public import Idealize.ShloMosaic.Lib.Quiescent
public import proofs.«01_k».proof.Proof.SsdPoints
public import proofs.«01_k».proof.Proof.RefRun
public import proofs.«01_k».proof.Proof.InZa
public import proofs.«01_k».proof.Proof.InQkvi
public import proofs.«01_k».proof.Proof.InSm
public import proofs.«01_k».proof.Proof.Ple
public import proofs.«01_k».proof.Proof.Out

@[expose] public section

noncomputable section

namespace Cert.Proof

open Idealize.ShloMosaic Idealize.SL.Sem Cert.Kernel

theorem at_two {n0 n1 : ℕ} (A : (⟨2, ![n0, n1]⟩ : Shape).Idx → EReal) (r : Fin n0) (j : Fin n1) :
    A (ix2 r j) = if h : r.val < n0 ∧ j.val < n1 then A (ix2 ⟨r.val, h.1⟩ ⟨j.val, h.2⟩) else 0 := by rw [dif_pos (And.intro r.isLt j.isLt)]
theorem at_one {n : ℕ} (A : (⟨1, ![n]⟩ : Shape).Idx → EReal) (j : Fin n) :
    A (ix1 j) = if h : j.val < n then A (ix1 ⟨j.val, h⟩) else 0 := by rw [dif_pos j.isLt]

/-- The arguments, as the recurrence's functions give them. -/
theorem args_of (m' : (ℓ : Loc Cert.ReferenceIdeal.nD Cert.ReferenceIdeal.τ Cert.ReferenceIdeal.sig) → Buf (Elt Ideal) ℓ) (c : Dev Cert.ReferenceIdeal.nD) :
    Cert.ReferenceIdeal.Ssd.Args (Cert.KernelIdeal.Ssd.inpOf
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))) (fun b => m' (c, b)) where
  za r j := at_two _ r j
  sm r j := at_two _ r j
  cw r j := at_two _ r j
  cb j := at_one _ j
  dtb j := at_one _ j
  al j := at_one _ j
  dk j := at_one _ j
  nw j := at_one _ j

/-- The reference leaves its arguments alone, and has no semaphores. -/
theorem quiet : Cert.quiescent_ReferenceIdeal := by
  intro m g _
  refine (θ_run _ _ _).mono (fun r h => ?_) (Cert.ReferenceIdeal.Ssd.run m g)
  exact ⟨fun c => (h c).2, sem_eq_zero_of_no_sems rfl _⟩

/-- Kernel and reference leave the same result. -/
theorem algebraic : Cert.algebraic_KernelIdeal_ReferenceIdeal := by
  pair_intro
  · run_from Cert.KernelIdeal.Value.run m g
  · run_from Cert.ReferenceIdeal.Ssd.run m' g'
    refine funext fun (q : (⟨2, ![8192, 1024]⟩ : Shape).Idx) => ?_
    rw [ValueIdx.eq_ix2 q]
    generalize q 0 = i, q 1 = j
    refine (Cert.ReferenceIdeal.Ssd.result_at m' c (args_of m' c) i j).trans ?_
    refine Eq.trans ?_ (Cert.KernelIdeal.Ssd.result_at m c i j).symm
    obtain ⟨h0, h1, h2, h3, h4, h5, h6, h7⟩ := hagree c
    rw [h0, h1, h2, h3, h4, h5, h6, h7]

theorem claim : Cert.Claim := ⟨
  Cert.Kernel.Gen.facts, Cert.KernelIdeal.Gen.facts, Cert.ReferenceIdeal.Gen.facts, Cert.ZaKernel.Gen.facts, Cert.ZaKernelIdeal.Gen.facts, Cert.ZaReferenceIdeal.Gen.facts, Cert.QkviKernel.Gen.facts, Cert.QkviKernelIdeal.Gen.facts, Cert.QkviReferenceIdeal.Gen.facts, Cert.SmKernel.Gen.facts, Cert.SmKernelIdeal.Gen.facts, Cert.SmReferenceIdeal.Gen.facts, Cert.PleKernel.Gen.facts, Cert.PleKernelIdeal.Gen.facts, Cert.PleReferenceIdeal.Gen.facts, Cert.OutKernel.Gen.facts, Cert.OutKernelIdeal.Gen.facts, Cert.OutReferenceIdeal.Gen.facts,
  fun m ρ _ => Cert.Kernel.Gen.frame m ρ, fun m ρ _ => Cert.KernelIdeal.Gen.frame m ρ, quiet,
  fun m ρ _ => Cert.ZaKernel.Gen.frame m ρ, fun m ρ _ => Cert.ZaKernelIdeal.Gen.frame m ρ, za_quiet,
  fun m ρ _ => Cert.QkviKernel.Gen.frame m ρ, fun m ρ _ => Cert.QkviKernelIdeal.Gen.frame m ρ, qkvi_quiet,
  fun m ρ _ => Cert.SmKernel.Gen.frame m ρ, fun m ρ _ => Cert.SmKernelIdeal.Gen.frame m ρ, sm_quiet,
  fun m ρ _ => Cert.PleKernel.Gen.frame m ρ, fun m ρ _ => Cert.PleKernelIdeal.Gen.frame m ρ, ple_quiet,
  fun m ρ _ => Cert.OutKernel.Gen.frame m ρ, fun m ρ _ => Cert.OutKernelIdeal.Gen.frame m ρ, out_quiet,
  trivial, algebraic, trivial, za_algebraic, trivial, qkvi_algebraic, trivial, sm_algebraic, trivial, ple_algebraic, trivial, out_algebraic⟩

end Cert.Proof

end
